-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S256x512 : Shape := ⟨2, ![256, 512]⟩
abbrev S8 : Shape := ⟨1, ![8]⟩
abbrev S1 : Shape := ⟨1, ![1]⟩
abbrev S_ : Shape := ⟨0, ![]⟩
abbrev S32x512 : Shape := ⟨2, ![32, 512]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S256x512, .f32⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v11 : BitVec 32 := Scalar.muli v2 c256_i32
  let v14 : BitVec 32 := Scalar.addi v11 c0_i32
  let c0_i32_9 : BitVec 32 := 0#32
  ![v14.toNat, 0]
def k0_dev1 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v55 : BitVec 32 := Scalar.muli v2 c8_i32_35
  let v56 : BitVec 32 := Scalar.addi c0_i32_36 v55
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v57 : BitVec 32 := Scalar.muli v9 c4_i32_37
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v59 : BitVec 32 := Scalar.muli v8 c1_i32_38
  let v60 : BitVec 32 := Scalar.addi v58 v59
  v60.toNat
def k0_dev2 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v61 : BitVec 32 := Scalar.muli v10 c8_i32_40
  let v62 : BitVec 32 := Scalar.addi c0_i32_41 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v63 : BitVec 32 := Scalar.muli v5 c4_i32_42
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v65 : BitVec 32 := Scalar.muli v8 c1_i32_43
  let v66 : BitVec 32 := Scalar.addi v64 v65
  v66.toNat
def k0_dev3 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v76 : BitVec 32 := Scalar.muli v2 c8_i32_54
  let v77 : BitVec 32 := Scalar.addi c0_i32_55 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v78 : BitVec 32 := Scalar.muli v9 c4_i32_56
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v80 : BitVec 32 := Scalar.muli v8 c1_i32_57
  let v81 : BitVec 32 := Scalar.addi v79 v80
  v81.toNat
def k0_dev4 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v97 : BitVec 32 := Scalar.muli v2 c8_i32_71
  let v98 : BitVec 32 := Scalar.addi c0_i32_72 v97
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v99 : BitVec 32 := Scalar.muli v9 c4_i32_73
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v101 : BitVec 32 := Scalar.muli v8 c1_i32_74
  let v102 : BitVec 32 := Scalar.addi v100 v101
  v102.toNat
def k0_dev5 (d0 : Dev nD) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v118 : BitVec 32 := Scalar.muli v2 c8_i32_88
  let v119 : BitVec 32 := Scalar.addi c0_i32_89 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_90 : BitVec 32 := 4#32
  let v120 : BitVec 32 := Scalar.muli v9 c4_i32_90
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v122 : BitVec 32 := Scalar.muli v8 c1_i32_91
  let v123 : BitVec 32 := Scalar.addi v121 v122
  v123.toNat
def k0_dev6 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v139 : BitVec 32 := Scalar.muli v2 c8_i32_105
  let v140 : BitVec 32 := Scalar.addi c0_i32_106 v139
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_107 : BitVec 32 := 4#32
  let v141 : BitVec 32 := Scalar.muli v9 c4_i32_107
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v143 : BitVec 32 := Scalar.muli v8 c1_i32_108
  let v144 : BitVec 32 := Scalar.addi v142 v143
  v144.toNat
def k0_dev7 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v160 : BitVec 32 := Scalar.muli v2 c8_i32_122
  let v161 : BitVec 32 := Scalar.addi c0_i32_123 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_124 : BitVec 32 := 4#32
  let v162 : BitVec 32 := Scalar.muli v9 c4_i32_124
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v164 : BitVec 32 := Scalar.muli v8 c1_i32_125
  let v165 : BitVec 32 := Scalar.addi v163 v164
  v165.toNat
def k0_dev8 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v181 : BitVec 32 := Scalar.muli v2 c8_i32_139
  let v182 : BitVec 32 := Scalar.addi c0_i32_140 v181
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_141 : BitVec 32 := 4#32
  let v183 : BitVec 32 := Scalar.muli v9 c4_i32_141
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v185 : BitVec 32 := Scalar.muli v8 c1_i32_142
  let v186 : BitVec 32 := Scalar.addi v184 v185
  v186.toNat
def k0_dev9 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v202 : BitVec 32 := Scalar.muli v2 c8_i32_156
  let v203 : BitVec 32 := Scalar.addi c0_i32_157 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_158 : BitVec 32 := 4#32
  let v204 : BitVec 32 := Scalar.muli v9 c4_i32_158
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v206 : BitVec 32 := Scalar.muli v8 c1_i32_159
  let v207 : BitVec 32 := Scalar.addi v205 v206
  v207.toNat
def k0_dev10 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v223 : BitVec 32 := Scalar.muli v2 c8_i32_173
  let v224 : BitVec 32 := Scalar.addi c0_i32_174 v223
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_175 : BitVec 32 := 4#32
  let v225 : BitVec 32 := Scalar.muli v9 c4_i32_175
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v227 : BitVec 32 := Scalar.muli v8 c1_i32_176
  let v228 : BitVec 32 := Scalar.addi v226 v227
  v228.toNat
def k0_dev11 (d0 : Dev nD) : Nat :=
  let c0_i32_200 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_199 : BitVec 32 := 8#32
  let v253 : BitVec 32 := Scalar.muli v10 c8_i32_199
  let v254 : BitVec 32 := Scalar.addi c0_i32_200 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v255 : BitVec 32 := Scalar.muli v5 c4_i32_201
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v257 : BitVec 32 := Scalar.muli v8 c1_i32_202
  let v258 : BitVec 32 := Scalar.addi v256 v257
  v258.toNat
def k0_dev12 (d0 : Dev nD) : Nat :=
  let c0_i32_231 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_230 : BitVec 32 := 8#32
  let v288 : BitVec 32 := Scalar.muli v10 c8_i32_230
  let v289 : BitVec 32 := Scalar.addi c0_i32_231 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_232 : BitVec 32 := 4#32
  let v290 : BitVec 32 := Scalar.muli v5 c4_i32_232
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v292 : BitVec 32 := Scalar.muli v8 c1_i32_233
  let v293 : BitVec 32 := Scalar.addi v291 v292
  v293.toNat
def k0_dev13 (d0 : Dev nD) : Nat :=
  let c0_i32_262 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_261 : BitVec 32 := 8#32
  let v323 : BitVec 32 := Scalar.muli v10 c8_i32_261
  let v324 : BitVec 32 := Scalar.addi c0_i32_262 v323
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v325 : BitVec 32 := Scalar.muli v5 c4_i32_263
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v327 : BitVec 32 := Scalar.muli v8 c1_i32_264
  let v328 : BitVec 32 := Scalar.addi v326 v327
  v328.toNat
def k0_dev14 (d0 : Dev nD) : Nat :=
  let c0_i32_293 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_292 : BitVec 32 := 8#32
  let v358 : BitVec 32 := Scalar.muli v10 c8_i32_292
  let v359 : BitVec 32 := Scalar.addi c0_i32_293 v358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_294 : BitVec 32 := 4#32
  let v360 : BitVec 32 := Scalar.muli v5 c4_i32_294
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v362 : BitVec 32 := Scalar.muli v8 c1_i32_295
  let v363 : BitVec 32 := Scalar.addi v361 v362
  v363.toNat
def k0_dev15 (d0 : Dev nD) : Nat :=
  let c0_i32_324 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_323 : BitVec 32 := 8#32
  let v393 : BitVec 32 := Scalar.muli v10 c8_i32_323
  let v394 : BitVec 32 := Scalar.addi c0_i32_324 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_325 : BitVec 32 := 4#32
  let v395 : BitVec 32 := Scalar.muli v5 c4_i32_325
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v397 : BitVec 32 := Scalar.muli v8 c1_i32_326
  let v398 : BitVec 32 := Scalar.addi v396 v397
  v398.toNat
def k0_dev16 (d0 : Dev nD) : Nat :=
  let c0_i32_355 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_354 : BitVec 32 := 8#32
  let v428 : BitVec 32 := Scalar.muli v10 c8_i32_354
  let v429 : BitVec 32 := Scalar.addi c0_i32_355 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v430 : BitVec 32 := Scalar.muli v5 c4_i32_356
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v432 : BitVec 32 := Scalar.muli v8 c1_i32_357
  let v433 : BitVec 32 := Scalar.addi v431 v432
  v433.toNat
def k0_dev17 (d0 : Dev nD) : Nat :=
  let c0_i32_386 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_385 : BitVec 32 := 8#32
  let v463 : BitVec 32 := Scalar.muli v10 c8_i32_385
  let v464 : BitVec 32 := Scalar.addi c0_i32_386 v463
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_387 : BitVec 32 := 4#32
  let v465 : BitVec 32 := Scalar.muli v5 c4_i32_387
  let v466 : BitVec 32 := Scalar.addi v464 v465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v467 : BitVec 32 := Scalar.muli v8 c1_i32_388
  let v468 : BitVec 32 := Scalar.addi v466 v467
  v468.toNat
def k0_dev18 (d0 : Dev nD) : Nat :=
  let c0_i32_417 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_416 : BitVec 32 := 8#32
  let v498 : BitVec 32 := Scalar.muli v10 c8_i32_416
  let v499 : BitVec 32 := Scalar.addi c0_i32_417 v498
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v500 : BitVec 32 := Scalar.muli v5 c4_i32_418
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v502 : BitVec 32 := Scalar.muli v8 c1_i32_419
  let v503 : BitVec 32 := Scalar.addi v501 v502
  v503.toNat
def k0_off2 (d0 : Dev nD) (c0_i32_439 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c256_i32_5 : BitVec 32 := 256#32
  let v13 : BitVec 32 := Scalar.muli v12 c256_i32_5
  let v525 : BitVec 32 := Scalar.addi v13 c0_i32_439
  let c0_i32_441 : BitVec 32 := 0#32
  ![v525.toNat, 0]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/- The kernel's body regrouped by chunk.

   The body handles its 256 rows in eight chunks of 32 rows, in six sweeps: fetch every chunk, shake hands
   with both partners, send every chunk to the y-partner, add what the y-partner sent and pass the sum on,
   store what the x-partner passed on, and drain. Here each sweep is one definition with the chunk's number
   as a parameter, and the printed body is shown to be these sweeps one after another. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.TwoHop

open Cert.KernelIdeal Idealize.ShloMosaic Idealize.ShloMosaic.TcCoe Idealize.SL.Sem

variable {F : FTy → Type} [FloatOps F]

/-! ## Buffers, semaphores and rectangles of a chunk -/

/-- The argument, -/
abbrev argM : Memref sig .tc .hbm S512x512 .f32 := Memref.whole main_arg0
/-- the result, -/
abbrev outM : Memref sig .tc .hbm S512x512 .bf16 := Memref.whole main_v1
/-- the fetched rows, -/
abbrev xM : Memref sig .tc .vmem S256x512 .f32 := Memref.whole cc0_scratch0
/-- the rounded rows to send, -/
abbrev sndM : Memref sig .tc .vmem S256x512 .bf16 := Memref.whole cc0_scratch1
/-- what the y-partner sends, -/
abbrev yrM : Memref sig .tc .vmem S256x512 .bf16 := Memref.whole cc0_scratch2
/-- the sums, -/
abbrev sumM : Memref sig .tc .vmem S256x512 .bf16 := Memref.whole cc0_scratch3
/-- and what the x-partner sends. -/
abbrev xrM : Memref sig .tc .vmem S256x512 .bf16 := Memref.whole cc0_scratch4

/-- A chunk lies inside its buffer; -/
theorem chunk_inb (i : Fin 8) : ∀ a, (![32 * i.val, 0] : Fin 2 → Nat) a + S32x512.size a ≤ S256x512.size a := by
  revert i; decide
/-- semaphore `i` inside its array; -/
theorem sem_inb (i : Fin 8) : ∀ a, (![i.val] : Fin 1 → Nat) a + S1.size a ≤ S8.size a := by
  revert i; decide

/-- Chunk `i`'s rows of a 256-row buffer. -/
abbrev chunkR (i : Fin 8) : Rect S256x512 := Rect.unit (s := S256x512) ![32 * i.val, 0] S32x512.size (chunk_inb i)
/-- Chunk `i`'s rows of the half that device `d` works on, in a 512-row array. -/
abbrev mineR (d : Dev nD) (i : Fin 8) : Rect S512x512 :=
  Rect.unit (s := S512x512) (k0_off1 d (BitVec.ofNat 32 (32 * i.val))) S32x512.size (Gen.facts.k0_off1_inb d i)
/-- Chunk `i`'s rows of the other half. -/
abbrev otherR (d : Dev nD) (i : Fin 8) : Rect S512x512 :=
  Rect.unit (s := S512x512) (k0_off2 d (BitVec.ofNat 32 (32 * i.val))) S32x512.size (Gen.facts.k0_off2_inb d i)

/-- a bf16 chunk is whole words, -/
theorem chunk_words (i : Fin 8) : (chunkR i).WholeWords (EltTy.packing .bf16) := by
  fin_cases i
  · exact Gen.facts.wordsbf16_S256x512_S32x512_0_0
  · exact Gen.facts.wordsbf16_S256x512_S32x512_32_0
  · exact Gen.facts.wordsbf16_S256x512_S32x512_64_0
  · exact Gen.facts.wordsbf16_S256x512_S32x512_96_0
  · exact Gen.facts.wordsbf16_S256x512_S32x512_128_0
  · exact Gen.facts.wordsbf16_S256x512_S32x512_160_0
  · exact Gen.facts.wordsbf16_S256x512_S32x512_192_0
  · exact Gen.facts.wordsbf16_S256x512_S32x512_224_0

/-- Semaphore `i` of an array of eight. -/
abbrev semAt (a : DmaSems sig S8) (i : Fin 8) : DmaSem sig :=
  ((a.slice (Rect.unit (s := S8) ![i.val] S1.size (sem_inb i))).squeeze S_ Gen.facts.squeezes_S1_S_).sem

/-- Chunk `i` of a scratch buffer, -/
abbrev chunkM {e : EltTy} (b : Memref sig .tc .vmem S256x512 e) (i : Fin 8) : Memref sig .tc .vmem S32x512 e :=
  b.slice (chunkR i) (fun _ => rfl)
/-- of the half of a 512-row array that device `d` works on, -/
abbrev mineM {e : EltTy} (b : Memref sig .tc .hbm S512x512 e) (d : Dev nD) (i : Fin 8) : Memref sig .tc .hbm S32x512 e :=
  b.slice (mineR d i) (fun _ => rfl)
/-- and of the other half. -/
abbrev otherM {e : EltTy} (b : Memref sig .tc .hbm S512x512 e) (d : Dev nD) (i : Fin 8) : Memref sig .tc .hbm S32x512 e :=
  b.slice (otherR d i) (fun _ => rfl)

/-- A bf16 chunk begins and ends on packed rows. -/
theorem chunk_packed (i : Fin 8) : (chunkR i).PackedRows (EltTy.packing .bf16) := by
  fin_cases i
  · exact Gen.facts.packedbf16_S256x512_S32x512_0_0
  · exact Gen.facts.packedbf16_S256x512_S32x512_32_0
  · exact Gen.facts.packedbf16_S256x512_S32x512_64_0
  · exact Gen.facts.packedbf16_S256x512_S32x512_96_0
  · exact Gen.facts.packedbf16_S256x512_S32x512_128_0
  · exact Gen.facts.packedbf16_S256x512_S32x512_160_0
  · exact Gen.facts.packedbf16_S256x512_S32x512_192_0
  · exact Gen.facts.packedbf16_S256x512_S32x512_224_0

/-! ## The partners as the body names them -/

/-- The device that chunk `i` is sent to first. -/
def yTo (d : Dev nD) : Fin 8 → Dev nD
  | 0 => ⟨k0_dev3 d, Gen.facts.k0_dev3_lt d⟩ | 1 => ⟨k0_dev4 d, Gen.facts.k0_dev4_lt d⟩
  | 2 => ⟨k0_dev5 d, Gen.facts.k0_dev5_lt d⟩ | 3 => ⟨k0_dev6 d, Gen.facts.k0_dev6_lt d⟩
  | 4 => ⟨k0_dev7 d, Gen.facts.k0_dev7_lt d⟩ | 5 => ⟨k0_dev8 d, Gen.facts.k0_dev8_lt d⟩
  | 6 => ⟨k0_dev9 d, Gen.facts.k0_dev9_lt d⟩ | 7 => ⟨k0_dev10 d, Gen.facts.k0_dev10_lt d⟩
/-- The device that chunk `i`'s sum is passed on to. -/
def xTo (d : Dev nD) : Fin 8 → Dev nD
  | 0 => ⟨k0_dev11 d, Gen.facts.k0_dev11_lt d⟩ | 1 => ⟨k0_dev12 d, Gen.facts.k0_dev12_lt d⟩
  | 2 => ⟨k0_dev13 d, Gen.facts.k0_dev13_lt d⟩ | 3 => ⟨k0_dev14 d, Gen.facts.k0_dev14_lt d⟩
  | 4 => ⟨k0_dev15 d, Gen.facts.k0_dev15_lt d⟩ | 5 => ⟨k0_dev16 d, Gen.facts.k0_dev16_lt d⟩
  | 6 => ⟨k0_dev17 d, Gen.facts.k0_dev17_lt d⟩ | 7 => ⟨k0_dev18 d, Gen.facts.k0_dev18_lt d⟩

/-! ## The sweeps -/

/-- A piece of one device's program. -/
abbrev Body (F : FTy → Type) : Type 1 := Prog (TpuEff nD τ sig (Elt F) Λ₀ .tc) PUnit

/-- What is sent of a chunk: its rows rounded to bf16. -/
def rounded (v : Vec F S32x512 .f32) : FVec F S32x512 .bf16 :=
  shapeCast S32x512 (truncf .bf16 v Gen.facts.bitsLt_bf16_f32 : FVec F S32x512 .bf16) Gen.facts.shapeCasts_S32x512_S32x512
/-- What is passed on of a chunk: its own rows plus the partner's, widened, rounded to bf16. -/
def added (v : Vec F S32x512 .f32) (w : Vec F S32x512 .bf16) : FVec F S32x512 .bf16 :=
  shapeCast S32x512 (truncf .bf16 (addf v (extf .f32 w Gen.facts.bitsLt_bf16_f32 : FVec F S32x512 .f32) : FVec F S32x512 .f32)
    Gen.facts.bitsLt_bf16_f32 : FVec F S32x512 .bf16) Gen.facts.shapeCasts_S32x512_S32x512

variable (F) in
/-- Start fetching chunk `i` of the own half of the argument. -/
def fetch (d : Dev nD) (i : Fin 8) : Body F :=
  Prog.lift (.enqueueDma (mineM argM d i) (.here (chunkM xM i)) (.dma (semAt cc0_scratch5 i)) (View.wordExact_bits rfl) (View.wordExact_bits rfl)
    ⟨Or.inl rfl, trivial⟩)

variable (F) in
/-- Signal both partners, and wait for both. -/
def handshake (d : Dev nD) : Body F := do
  semSignalWord (⟨k0_dev1 d, Gen.facts.k0_dev1_lt d⟩ : Dev nD) (SemArray.scalar (sig.barrier 0 rfl) : Sems sig S_).sem 1#32
  semSignalWord (⟨k0_dev2 d, Gen.facts.k0_dev2_lt d⟩ : Dev nD) (SemArray.scalar (sig.barrier 0 rfl) : Sems sig S_).sem 1#32
  semWaitWord (SemArray.scalar (sig.barrier 0 rfl) : Sems sig S_).sem 2#32

/-- Wait for the fetched chunk, round it and send it to the y-partner. -/
def send (d : Dev nD) (i : Fin 8) : Body F := do
  Prog.lift (.waitDma2 (semAt cc0_scratch5 i) (mineM argM d i) (chunkM xM i) (View.wordExact_bits rfl) (View.wordExact_bits rfl))
  let v : Vec F S32x512 .f32 ← Prog.lift (.load xM (chunkR i).toLoadRect (View.loadsAt_vmem Gen.facts.h_S32x512))
  let _ : Vec F S32x512 .bf16 ← Prog.lift (.load sndM (chunkR i).toLoadRect (View.loadsAt_vmem Gen.facts.h_S32x512))
  Prog.lift (.store sndM (chunkR i) (rounded v) Finset.univ
    (View.stores_vmem Gen.facts.h_S32x512 ((Memref.isWhole_whole cc0_scratch1).storeExact_slice rfl _ (chunk_packed i)) (fun _ => rfl)) (.inl rfl))
  Prog.lift (.enqueueDma (chunkM sndM i) (.remote (Dev.tc (yTo d i)) (chunkM yrM i) (.dma (semAt cc0_scratch6 i))) (.dma (semAt cc0_scratch7 i))
    ((Memref.isWhole_whole cc0_scratch1).wordExact_slice rfl _ (chunk_words i)) ((Memref.isWhole_whole cc0_scratch2).wordExact_slice rfl _ (chunk_words i))
    ⟨⟨rfl, Or.inl rfl⟩, trivial⟩)

/-- Wait for the y-partner's chunk, add it, send the sum to the x-partner and store it. -/
def reduce (d : Dev nD) (i : Fin 8) : Body F := do
  Prog.lift (.waitDma2 (semAt cc0_scratch7 i) (chunkM sndM i) (chunkM yrM i)
    ((Memref.isWhole_whole cc0_scratch1).wordExact_slice rfl _ (chunk_words i)) ((Memref.isWhole_whole cc0_scratch2).wordExact_slice rfl _ (chunk_words i)))
  let v : Vec F S32x512 .f32 ← Prog.lift (.load xM (chunkR i).toLoadRect (View.loadsAt_vmem Gen.facts.h_S32x512))
  let w : Vec F S32x512 .bf16 ← Prog.lift (.load yrM (chunkR i).toLoadRect (View.loadsAt_vmem Gen.facts.h_S32x512))
  let _ : Vec F S32x512 .bf16 ← Prog.lift (.load sumM (chunkR i).toLoadRect (View.loadsAt_vmem Gen.facts.h_S32x512))
  Prog.lift (.store sumM (chunkR i) (added v w) Finset.univ
    (View.stores_vmem Gen.facts.h_S32x512 ((Memref.isWhole_whole cc0_scratch3).storeExact_slice rfl _ (chunk_packed i)) (fun _ => rfl)) (.inl rfl))
  Prog.lift (.enqueueDma (chunkM sumM i) (.remote (Dev.tc (xTo d i)) (chunkM xrM i) (.dma (semAt cc0_scratch8 i))) (.dma (semAt cc0_scratch9 i))
    ((Memref.isWhole_whole cc0_scratch3).wordExact_slice rfl _ (chunk_words i)) ((Memref.isWhole_whole cc0_scratch4).wordExact_slice rfl _ (chunk_words i))
    ⟨⟨rfl, Or.inl rfl⟩, trivial⟩)
  Prog.lift (.enqueueDma (chunkM sumM i) (.here (mineM outM d i)) (.dma (semAt cc0_scratch10 i))
    ((Memref.isWhole_whole cc0_scratch3).wordExact_slice rfl _ (chunk_words i))
    ((Memref.isWhole_whole main_v1).wordExact_slice rfl _ (Gen.facts.k0_off1_wordsbf16 d i)) ⟨Or.inl rfl, trivial⟩)

variable (F) in
/-- Wait for the x-partner's sum and store it. -/
def collect (d : Dev nD) (i : Fin 8) : Body F := do
  Prog.lift (.waitDma2 (semAt cc0_scratch9 i) (chunkM sumM i) (chunkM xrM i)
    ((Memref.isWhole_whole cc0_scratch3).wordExact_slice rfl _ (chunk_words i)) ((Memref.isWhole_whole cc0_scratch4).wordExact_slice rfl _ (chunk_words i)))
  Prog.lift (.enqueueDma (chunkM xrM i) (.here (otherM outM d i)) (.dma (semAt cc0_scratch11 i))
    ((Memref.isWhole_whole cc0_scratch4).wordExact_slice rfl _ (chunk_words i))
    ((Memref.isWhole_whole main_v1).wordExact_slice rfl _ (Gen.facts.k0_off2_wordsbf16 d i)) ⟨Or.inl rfl, trivial⟩)

variable (F) in
/-- Wait for both stores and for both sends to have left. -/
def drain (d : Dev nD) (i : Fin 8) : Body F := do
  Prog.lift (.waitDma2 (semAt cc0_scratch10 i) (chunkM sumM i) (mineM outM d i)
    ((Memref.isWhole_whole cc0_scratch3).wordExact_slice rfl _ (chunk_words i))
    ((Memref.isWhole_whole main_v1).wordExact_slice rfl _ (Gen.facts.k0_off1_wordsbf16 d i)))
  Prog.lift (.waitDma2 (semAt cc0_scratch11 i) (chunkM xrM i) (otherM outM d i)
    ((Memref.isWhole_whole cc0_scratch4).wordExact_slice rfl _ (chunk_words i))
    ((Memref.isWhole_whole main_v1).wordExact_slice rfl _ (Gen.facts.k0_off2_wordsbf16 d i)))
  Prog.lift (.waitDma2 (semAt cc0_scratch6 i) (chunkM yrM i) (chunkM sndM i)
    ((Memref.isWhole_whole cc0_scratch2).wordExact_slice rfl _ (chunk_words i)) ((Memref.isWhole_whole cc0_scratch1).wordExact_slice rfl _ (chunk_words i)))
  Prog.lift (.waitDma2 (semAt cc0_scratch8 i) (chunkM xrM i) (chunkM sumM i)
    ((Memref.isWhole_whole cc0_scratch4).wordExact_slice rfl _ (chunk_words i)) ((Memref.isWhole_whole cc0_scratch3).wordExact_slice rfl _ (chunk_words i)))

/-- Eight steps one after another, then `k`. -/
def sweep (f : Fin 8 → Body F) (k : Body F) : Body F :=
  f 0 >>= fun _ => f 1 >>= fun _ => f 2 >>= fun _ => f 3 >>= fun _ => f 4 >>= fun _ => f 5 >>= fun _ => f 6 >>= fun _ => f 7 >>= fun _ => k

/-- The whole body, sweep by sweep. -/
def sweeps : Body F :=
  Prog.lift .deviceId >>= fun d => sweep (fetch F d) (handshake F d >>= fun _ => sweep (send d) (sweep (reduce d) (sweep (collect F d)
    (sweep (drain F d) (pure ⟨⟩)))))

set_option maxRecDepth 65536 in
/-- The printed body is its sweeps. -/
theorem body_eq : Gen.bodyAt0 (F := F) Gen.t0_0 = sweeps := rfl

end Cert.TwoHop
-- ==== Proof.Mesh.lean ====
/- The mesh, the row ranges and the blocks of values.

   A device's y-partner and x-partner; that the eight chunks cut a 256-row buffer, and that the sixteen row
   ranges a device names cut the 512-row arrays; and the blocks of values the exchange moves. -/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.TwoHop

open Cert.KernelIdeal Idealize.ShloMosaic Idealize.ShloMosaic.TcCoe Idealize.SL.Sem

variable {F : FTy → Type} [FloatOps F]

/-! ## Partners -/

/-- The device with the other y coordinate. -/
def py (c : Dev nD) : Dev nD := ⟨(8 * (c.val / 8) + c.val % 4 + 4) - 4 * ((c.val / 4) % 2), by have : c.val < 16 := c.isLt; show _ < 16; omega⟩
/-- The device with the other x coordinate. -/
def px (c : Dev nD) : Dev nD := ⟨(4 * ((c.val / 4) % 2) + c.val % 4 + 8) - 8 * (c.val / 8), by have : c.val < 16 := c.isLt; show _ < 16; omega⟩

/-- The y-partner's y-partner is the device itself; -/
theorem py_py (c : Dev nD) : py (py c) = c := by revert c; decide
/-- so is the x-partner's x-partner; -/
theorem px_px (c : Dev nD) : px (px c) = c := by revert c; decide
/-- the two partners differ. -/
theorem py_ne_px (c : Dev nD) : py c ≠ px c := by revert c; decide

/-- Partnering is its own inverse. -/
def pyE : Dev nD ≃ Dev nD := ⟨py, py, py_py, py_py⟩
/-- The same for the x-partner. -/
def pxE : Dev nD ≃ Dev nD := ⟨px, px, px_px, px_px⟩

/-- The barrier's first signal goes to the y-partner, -/
theorem dev1 (c : Dev nD) : (⟨k0_dev1 c, Gen.facts.k0_dev1_lt c⟩ : Dev nD) = py c := Fin.ext (Gen.k0_dev1_eq c)
/-- the second to the x-partner. -/
theorem dev2 (c : Dev nD) : (⟨k0_dev2 c, Gen.facts.k0_dev2_lt c⟩ : Dev nD) = px c := Fin.ext (Gen.k0_dev2_eq c)
/-- Every chunk is sent to the y-partner first, -/
theorem yTo_eq (c : Dev nD) (i : Fin 8) : yTo c i = py c := by
  fin_cases i
  · exact Fin.ext (Gen.k0_dev3_eq c)
  · exact Fin.ext (Gen.k0_dev4_eq c)
  · exact Fin.ext (Gen.k0_dev5_eq c)
  · exact Fin.ext (Gen.k0_dev6_eq c)
  · exact Fin.ext (Gen.k0_dev7_eq c)
  · exact Fin.ext (Gen.k0_dev8_eq c)
  · exact Fin.ext (Gen.k0_dev9_eq c)
  · exact Fin.ext (Gen.k0_dev10_eq c)
/-- and its sum to the x-partner. -/
theorem xTo_eq (c : Dev nD) (i : Fin 8) : xTo c i = px c := by
  fin_cases i
  · exact Fin.ext (Gen.k0_dev11_eq c)
  · exact Fin.ext (Gen.k0_dev12_eq c)
  · exact Fin.ext (Gen.k0_dev13_eq c)
  · exact Fin.ext (Gen.k0_dev14_eq c)
  · exact Fin.ext (Gen.k0_dev15_eq c)
  · exact Fin.ext (Gen.k0_dev16_eq c)
  · exact Fin.ext (Gen.k0_dev17_eq c)
  · exact Fin.ext (Gen.k0_dev18_eq c)

/-! ## Row ranges -/

/-- The sixteen row ranges a device names in a 512-row array: its own half's chunks and the other half's. -/
abbrev halfR (c : Dev nD) (t : Bool × Fin 8) : Rect S512x512 := if t.1 then otherR c t.2 else mineR c t.2

/-- The first row of such a range. -/
def top (c : Dev nD) (t : Bool × Fin 8) : Nat :=
  if t.1 then (32 * t.2.val + 256) - 256 * (c.val / 8) else 256 * (c.val / 8) + 32 * t.2.val

/-- Chunk `i` of a scratch buffer is rows `32 i` to `32 i + 31`. -/
theorem mem_chunkR (i : Fin 8) (j : S256x512.Idx) : j ∈ (chunkR i).set ↔ 32 * i.val ≤ (j 0).val ∧ (j 0).val < 32 * i.val + 32 := by
  rw [Rect.mem_set_unit]
  constructor
  · intro h; exact h 0
  · intro h a
    fin_cases a
    · exact h
    · exact ⟨Nat.zero_le _, by have := (j 1).isLt; simpa using this⟩

/-- A named row range is the 32 rows from its first. -/
theorem mem_halfR (c : Dev nD) (t : Bool × Fin 8) (j : S512x512.Idx) :
    j ∈ (halfR c t).set ↔ top c t ≤ (j 0).val ∧ (j 0).val < top c t + 32 := by
  obtain ⟨b, i⟩ := t
  have h1 : (j 1).val < 512 := (j 1).isLt
  cases b
  · show j ∈ (mineR c i).set ↔ _
    rw [Rect.mem_set_unit, Gen.k0_off1_eq]
    constructor
    · intro h; exact h 0
    · intro h a
      fin_cases a
      · exact h
      · exact ⟨Nat.zero_le _, by simpa using h1⟩
  · show j ∈ (otherR c i).set ↔ _
    rw [Rect.mem_set_unit, Gen.k0_off2_eq]
    constructor
    · intro h; exact h 0
    · intro h a
      fin_cases a
      · exact h
      · exact ⟨Nat.zero_le _, by simpa using h1⟩

/-- The eight chunks do not meet, -/
theorem chunk_disjoint (i i' : Fin 8) (h : i ≠ i') : Disjoint (chunkR i).set (chunkR i').set := by
  refine Finset.disjoint_left.mpr fun j hj hj' => h (Fin.ext ?_)
  rw [mem_chunkR] at hj hj'; omega

/-- and together are the buffer. -/
theorem chunk_cover : (Finset.univ : Finset (Fin 8)).biUnion (fun i => (chunkR i).set) = Finset.univ := by
  refine Finset.eq_univ_of_forall fun j => Finset.mem_biUnion.mpr ?_
  have h0 : (j 0).val < 256 := (j 0).isLt
  refine ⟨⟨(j 0).val / 32, by omega⟩, Finset.mem_univ _, ?_⟩
  rw [mem_chunkR]; dsimp only; omega

/-- The sixteen row ranges do not meet, -/
theorem half_disjoint (c : Dev nD) (t t' : Bool × Fin 8) (h : t ≠ t') : Disjoint (halfR c t).set (halfR c t').set := by
  refine Finset.disjoint_left.mpr fun j hj hj' => h ?_
  rw [mem_halfR] at hj hj'
  obtain ⟨b, i⟩ := t
  obtain ⟨b', i'⟩ := t'
  have hc : c.val < 16 := c.isLt
  have hi := i.isLt
  have hi' := i'.isLt
  unfold top at hj hj'
  cases b <;> cases b' <;> simp only [if_true, if_false, Bool.false_eq_true] at hj hj' <;>
    first | (exfalso; omega) | (have : i = i' := Fin.ext (by omega)
                                rw [this])

/-- and together are the array. -/
theorem half_cover (c : Dev nD) : (Finset.univ : Finset (Bool × Fin 8)).biUnion (fun t => (halfR c t).set) = Finset.univ := by
  refine Finset.eq_univ_of_forall fun j => Finset.mem_biUnion.mpr ?_
  have h0 : (j 0).val < 512 := (j 0).isLt
  have hc : c.val < 16 := c.isLt
  by_cases h : (j 0).val / 256 = c.val / 8
  · refine ⟨(false, ⟨(j 0).val % 256 / 32, by omega⟩), Finset.mem_univ _, ?_⟩
    rw [mem_halfR]; unfold top; simp only [if_false, Bool.false_eq_true]; omega
  · refine ⟨(true, ⟨(j 0).val % 256 / 32, by omega⟩), Finset.mem_univ _, ?_⟩
    rw [mem_halfR]; unfold top; simp only [if_true]; omega

/-- They are ranges of consecutive rows. -/
theorem half_stride (c : Dev nD) (t : Bool × Fin 8) : ∀ a, (halfR c t).stride a = 1 := by
  obtain ⟨b, i⟩ := t; cases b <;> exact fun _ => rfl

/-! ## Blocks of values -/

variable (m : (ℓ : Loc nD τ sig) → Buf (Elt F) ℓ)

/-- Device `c`'s argument. -/
abbrev argAt (c : Dev nD) : (main_arg0 : Ref sig .tc).ty.Contents (Elt F) := m ((c : Thread nD τ).loc main_arg0)
/-- Chunk `i` of the half of its argument that device `c` works on, -/
def xB (c : Dev nD) (i : Fin 8) : S32x512.Idx → Elt F .f32 := (mineM argM c i).view.read (Elt F) (argAt m c)
/-- the same rounded, as it is sent to the y-partner, -/
def sB (c : Dev nD) (i : Fin 8) : S32x512.Idx → Elt F .bf16 := rounded (xB m c i)
/-- and the sum with what the y-partner sent, as it is stored and passed on to the x-partner. -/
def tB (c : Dev nD) (i : Fin 8) : S32x512.Idx → Elt F .bf16 := added (xB m c i) (sB m (py c) i)

/-- The result array's contents: its own half the device's sums, the other half its x-partner's. -/
def Good (c : Dev nD) (f : (main_v1 : Ref sig .tc).ty.Contents (Elt F)) : Prop :=
  ∀ i, (mineM outM c i).view.read (Elt F) f = tB m c i ∧ (otherM outM c i).view.read (Elt F) f = tB m (px c) i

end Cert.TwoHop
-- ==== Proof.Schedule.lean ====
/- The protocol as a schedule of the semaphores.

   Each device has one barrier cell, signalled once by each partner, and seven arrays of eight transfer cells,
   every cell completed by one transfer. A barrier signal hands over the sender's landing buffer; a transfer
   hands over what it moved. Then what each device owes, and that every wait is below what is still owed. -/
module

public import proofs.«01_k».proof.Proof.Mesh

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own part and the exchange's -/

/-- The exchange's part; -/
abbrev UB : Type := URounds (GSem nD τ sig) Bool
/-- both parts. -/
abbrev UU : Type := UR sig nD τ × UB

local notation "𝕄" => MT nD τ sig Unit (Elt F) ℕ UU ℕ

/-- Where the launch's part sits, -/
abbrev EP : Emb (UR sig nD τ) (MT nD τ sig Unit (Elt F) ℕ UU ℕ) := embL
/-- and the exchange's. -/
abbrev ER : Emb UB (MT nD τ sig Unit (Elt F) ℕ UU ℕ) := embR

/-! ## Cells -/

/-- The barrier semaphore. -/
abbrev barS : Sem sig := (SemArray.scalar (sig.barrier 0 rfl) : Sems sig S_).sem

/-- Transfer semaphore `i` of array `k`: 0 the fetches, 1 the sends to the y-partner leaving, 2 arriving, 3 the
    sends to the x-partner leaving, 4 arriving, 5 the stores of the own half, 6 of the other half. -/
def dq : Fin 7 × Fin 8 ≃ DmaSem sig := finProdFinEquiv

/-- The eight semaphores of each array, by number: the fetches, -/
theorem dq_in (i : Fin 8) : semAt cc0_scratch5 i = dq (0, i) := by revert i; decide
/-- sends to the y-partner leaving, -/
theorem dq_ysend (i : Fin 8) : semAt cc0_scratch6 i = dq (1, i) := by revert i; decide
/-- and arriving, -/
theorem dq_yrecv (i : Fin 8) : semAt cc0_scratch7 i = dq (2, i) := by revert i; decide
/-- sends to the x-partner leaving, -/
theorem dq_xsend (i : Fin 8) : semAt cc0_scratch8 i = dq (3, i) := by revert i; decide
/-- and arriving, -/
theorem dq_xrecv (i : Fin 8) : semAt cc0_scratch9 i = dq (4, i) := by revert i; decide
/-- stores of the own half, -/
theorem dq_outh (i : Fin 8) : semAt cc0_scratch10 i = dq (5, i) := by revert i; decide
/-- stores of the other half. -/
theorem dq_outo (i : Fin 8) : semAt cc0_scratch11 i = dq (6, i) := by revert i; decide

/-- Device `c`'s barrier cell, -/
abbrev barCell (c : Dev nD) : GSem nD τ sig := ((c : Thread nD τ), .reg barS)
/-- and its cell for transfer `i` on array `k`. -/
abbrev cell (c : Dev nD) (k : Fin 7) (i : Fin 8) : GSem nD τ sig := ((c : Thread nD τ), .dma (dq (k, i)))

/-- Transfer cells are equal only when device, array and number are; -/
theorem cell_eq_iff {a b : Dev nD} {k k' : Fin 7} {i i' : Fin 8} : cell a k i = cell b k' i' ↔ a = b ∧ k = k' ∧ i = i' := by
  constructor
  · intro h
    have h1 : a = b := Fin.ext (congrArg (fun g : GSem nD τ sig => g.1.1.val) h)
    have h2 : dq (k, i) = dq (k', i') := by
      have := congrArg Prod.snd h
      exact SemLoc.dma.inj this
    have h3 := dq.injective h2
    exact ⟨h1, congrArg Prod.fst h3, congrArg Prod.snd h3⟩
  · rintro ⟨rfl, rfl, rfl⟩; rfl
/-- barrier cells when the device is; -/
theorem bar_eq_iff {a b : Dev nD} : Iff (barCell a = barCell b) (a = b) :=
  ⟨fun h => Fin.ext (congrArg (fun g : GSem nD τ sig => g.1.1.val) h), fun h => h ▸ rfl⟩
/-- and the two kinds differ. -/
theorem cell_ne_bar (a b : Dev nD) (k : Fin 7) (i : Fin 8) : cell a k i ≠ barCell b := fun h => by
  have := congrArg Prod.snd h; cases this

/-- What a transfer on array `k` credits: the fetches move f32 chunks, the rest bf16 chunks. -/
def credit (k : Fin 7) : ℕ := if k = 0 then (chunkM xM 0).view.dmaCredit else (chunkM sndM 0).view.dmaCredit
/-- Every transfer credits something. -/
theorem credit_pos (k : Fin 7) : 0 < credit k := by
  unfold credit; split <;> exact View.dmaCredit_pos _ (by decide)

/-! ## Payloads -/

variable (m : (ℓ : Loc nD τ sig) → Buf (Elt F) ℓ)

/-- A chunk of a buffer at some contents. -/
def chunkAny (c : Dev nD) {e : EltTy} (b : Memref sig .tc .vmem S256x512 e) (i : Fin 8) : sProp 𝕄 :=
  iprop(∃ Y, ownsTc c (chunkM b i) fullShare Y)

/-- What a barrier signal hands device `c`: its y-partner's (`false`) landing buffer for the first hop, or its
    x-partner's (`true`) for the second. -/
def barPay (c : Dev nD) (d : Bool) : sProp 𝕄 :=
  if d then bigSep Finset.univ fun i => chunkAny (px c) xrM i else bigSep Finset.univ fun i => chunkAny (py c) yrM i

/-- What transfer `i` on array `k` of device `c` hands over. -/
def dmaPay (c : Dev nD) (k : Fin 7) (i : Fin 8) : sProp 𝕄 :=
  match k with
  | 0 => iprop(ownsTc c (chunkM xM i) fullShare (xB m c i) ∗ ownsTc c (mineM argM c i) fullShare (xB m c i))
  | 1 => ownsTc c (chunkM sndM i) fullShare (sB m c i)
  | 2 => ownsTc c (chunkM yrM i) fullShare (sB m (py c) i)
  | 3 => ownsTc c (chunkM sumM i) fullShare.left (tB m c i)
  | 4 => ownsTc c (chunkM xrM i) fullShare (tB m (px c) i)
  | 5 => iprop(ownsTc c (mineM outM c i) fullShare (tB m c i) ∗ ownsTc c (chunkM sumM i) fullShare.right (tB m c i))
  | 6 => iprop(ownsTc c (otherM outM c i) fullShare (tB m (px c) i) ∗ ownsTc c (chunkM xrM i) fullShare (tB m (px c) i))

omit [FloatOps F] in
/-- These payloads may be kept in a cell: a chunk, -/
instance chunkAny_storable (c : Dev nD) {e : EltTy} (b : Memref sig .tc .vmem S256x512 e) (i : Fin 8) :
    BI.Storable (upEmb : UEmb _ 𝕄) (chunkAny (F := F) c b i) := by unfold chunkAny; infer_instance
omit [FloatOps F] in
/-- what a barrier signal hands over, -/
instance barPay_storable (c : Dev nD) (d : Bool) : BI.Storable (upEmb : UEmb _ 𝕄) (barPay (F := F) c d) := by
  unfold barPay; split <;> infer_instance
/-- what a transfer hands over, -/
instance dmaPay_storable (c : Dev nD) (k : Fin 7) (i : Fin 8) : BI.Storable (upEmb : UEmb _ 𝕄) (dmaPay m c k i) := by
  unfold dmaPay; split <;> infer_instance

/-- One round: a barrier cell has a duty of one unit for each partner, a transfer cell the duty `false`. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => credit (dq.symm q).1
  payload g _ d := match g.2 with | .reg _ => barPay g.1.1 d | .dma q => dmaPay m g.1.1 (dq.symm q).1 (dq.symm q).2
  amount_pos g _ _ _ := by
    split
    · exact Nat.one_pos
    · exact credit_pos _

/-- and so every payload of the schedule. -/
instance rd_payload_storable (g : GSem nD τ sig) (r : ℕ) (d : Bool) : BI.Storable (upEmb : UEmb _ 𝕄) ((rd m).payload g r d) := by
  show BI.Storable upEmb (match g.2 with | .reg _ => barPay g.1.1 d | .dma q => dmaPay m g.1.1 (dq.symm q).1 (dq.symm q).2)
  split <;> infer_instance

section Sched

variable (c : Dev nD) (k : Fin 7) (i : Fin 8)

/-- The barrier's one round has two duties, -/
theorem duties_bar : (rd m).duties (barCell c) 0 = Finset.univ := by dsimp only [rd]; exact if_pos ⟨rfl, rfl⟩
/-- a transfer cell's has one, -/
theorem duties_cell : (rd m).duties (cell c k i) 0 = {false} := by dsimp only [rd]; exact if_pos ⟨rfl, rfl⟩
/-- and there is no later round. -/
theorem duties_later (g : GSem nD τ sig) : ∀ r, 1 ≤ r → (rd m).duties g r = ∅ := fun r hr => if_neg fun h => by omega
/-- A barrier signal is one unit, -/
theorem amount_bar (d : Bool) : (rd m).amount (barCell c) 0 d = 1 := rfl
/-- a transfer its bytes' worth; -/
theorem amount_cell (d : Bool) : (rd m).amount (cell c k i) 0 d = credit k := by
  show credit (dq.symm (dq (k, i))).1 = _
  rw [Equiv.symm_apply_apply]
/-- so the barrier's round is two units, -/
theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
/-- and a transfer cell's round is the one transfer. -/
theorem expect_cell : (rd m).expect (cell c k i) 0 = credit k := by
  unfold Schedule.expect Schedule.amountOf; rw [duties_cell, Finset.sum_singleton, amount_cell]
/-- What the schedule hands over at the barrier, -/
theorem payload_bar (d : Bool) : (rd m).payload (barCell c) 0 d = barPay c d := rfl
/-- and on a transfer cell. -/
theorem payload_cell (d : Bool) : (rd m).payload (cell c k i) 0 d = dmaPay m c k i := by
  show dmaPay m c (dq.symm (dq (k, i))).1 (dq.symm (dq (k, i))).2 = _
  rw [Equiv.symm_apply_apply]
/-- A barrier wait receives both partners' landing buffers; -/
theorem rest_bar : bigSep ((rd m).duties (barCell c) 0 \ ∅) (fun d => (rd m).payload (barCell c) 0 d)
    = iprop((bigSep Finset.univ fun i => chunkAny (py c) yrM i) ∗ bigSep Finset.univ fun i => chunkAny (px c) xrM i) := by
  rw [Finset.sdiff_empty, duties_bar, bigSep_univ_eq_bigSepL [false, true] (by decide) (by decide), bigSepL_cons_cons, bigSepL_singleton]
  rfl
/-- a transfer's wait what it moved. -/
theorem rest_cell : bigSep ((rd m).duties (cell c k i) 0 \ ∅) (fun d => (rd m).payload (cell c k i) 0 d) = dmaPay m c k i := by
  rw [Finset.sdiff_empty, duties_cell, bigSep_singleton, payload_cell]

end Sched

/-! ## What is owed, and the levels -/

/-- What device `c` owes once it has sent the chunks below `j` to its y-partner and those below `k` to its x-partner. -/
def debt (c : Dev nD) (j k : ℕ) : CellTallies nD τ sig Unit :=
  (∑ i : Fin 8 with k ≤ i.val, tallyAt (cell (px c) 4 i) () (credit 4)) + ∑ i : Fin 8 with j ≤ i.val, tallyAt (cell (py c) 2 i) () (credit 2)

/-- At launch it also owes both partners a barrier signal. -/
def O₀ (c : Dev nD) : CellTallies nD τ sig Unit := debt c 0 0 + tallyAt (barCell (px c)) () 1 + tallyAt (barCell (py c)) () 1

/-- A sum over the chunks from `i` on is that from the next one on, plus chunk `i`'s. -/
theorem sum_from (f : Fin 8 → CellTallies nD τ sig Unit) (i : Fin 8) :
    (∑ t : Fin 8 with i.val ≤ t.val, f t) = (∑ t : Fin 8 with i.val + 1 ≤ t.val, f t) + f i := by
  have : (Finset.univ.filter fun t : Fin 8 => i.val ≤ t.val) = insert i (Finset.univ.filter fun t : Fin 8 => i.val + 1 ≤ t.val) := by
    ext t
    simp only [Finset.mem_filter, Finset.mem_univ, true_and, Finset.mem_insert]
    constructor
    · intro h
      by_cases h' : t = i
      · exact Or.inl h'
      · exact Or.inr (by have : t.val ≠ i.val := fun h'' => h' (Fin.ext h''); omega)
    · rintro (rfl | h)
      · exact le_rfl
      · omega
  rw [this, Finset.sum_insert (by simp), add_comm]

/-- Sending a chunk to the y-partner pays its summand, -/
theorem debt_y (c : Dev nD) (i : Fin 8) (k : ℕ) : debt c i.val k = debt c (i.val + 1) k + tallyAt (cell (py c) 2 i) () (credit 2) := by
  unfold debt; rw [sum_from, add_assoc]
/-- to the x-partner the other. -/
theorem debt_x (c : Dev nD) (j : ℕ) (i : Fin 8) : debt c j i.val = debt c j (i.val + 1) + tallyAt (cell (px c) 4 i) () (credit 4) := by
  unfold debt; rw [sum_from, add_right_comm]
/-- After both sweeps nothing is owed. -/
theorem debt_done (c : Dev nD) : debt c 8 8 = 0 := by
  have h : (Finset.univ.filter fun t : Fin 8 => 8 ≤ t.val) = ∅ := Finset.filter_eq_empty_iff.mpr fun t _ => by have := t.isLt; omega
  unfold debt; rw [h, Finset.sum_empty, Finset.sum_empty, add_zero]

/-- A sum of tallies, at one cell. -/
theorem tallies_sum_apply {T : Type} (S : Finset T) (f : T → CellTallies nD τ sig Unit) (g : GSem nD τ sig) (u : Unit) :
    (∑ t ∈ S, f t) g u = ∑ t ∈ S, f t g u := by
  rw [Finset.sum_apply, Finsupp.finset_sum_apply]

/-- What is owed on one cell. -/
theorem debt_apply (c : Dev nD) (j k : ℕ) (g : GSem nD τ sig) (u : Unit) :
    debt c j k g u = (∑ i : Fin 8 with k ≤ i.val, tallyAt (cell (px c) 4 i) () (credit 4) g u)
      + ∑ i : Fin 8 with j ≤ i.val, tallyAt (cell (py c) 2 i) () (credit 2) g u := by
  unfold debt; rw [Pi.add_apply, Finsupp.add_apply, tallies_sum_apply, tallies_sum_apply]

/-- What is owed is owed to landing cells only, and to first-hop ones only while some are left. -/
theorem debt_pos {c : Dev nD} {j k : ℕ} {g : GSem nD τ sig} {u : Unit} (h : 0 < debt c j k g u) :
    (∃ i, g = cell (px c) 4 i) ∨ ∃ i : Fin 8, j ≤ i.val ∧ g = cell (py c) 2 i := by
  rw [debt_apply] at h
  rcases Nat.lt_or_ge 0 (∑ i : Fin 8 with k ≤ i.val, tallyAt (cell (px c) 4 i) () (credit 4) g u) with h1 | h1
  · obtain ⟨i, -, hi⟩ := Finset.exists_ne_zero_of_sum_ne_zero h1.ne'
    rw [tallyAt_apply] at hi
    by_cases e : g = cell (px c) 4 i ∧ u = ()
    · exact Or.inl ⟨i, e.1⟩
    · rw [if_neg e] at hi; exact absurd rfl hi
  · have h2 : 0 < ∑ i : Fin 8 with j ≤ i.val, tallyAt (cell (py c) 2 i) () (credit 2) g u := by omega
    obtain ⟨i, hm, hi⟩ := Finset.exists_ne_zero_of_sum_ne_zero h2.ne'
    rw [tallyAt_apply] at hi
    by_cases e : g = cell (py c) 2 i ∧ u = ()
    · exact Or.inr ⟨i, (Finset.mem_filter.mp hm).2, e.1⟩
    · rw [if_neg e] at hi; exact absurd rfl hi

/-- Cells carry one level, on the TensorCores only. -/
def L (g : GSem nD τ sig) : Finset Unit := if g.1.2 = .tc then {()} else ∅
/-- Barrier cells at 1, first-hop landings at 2, second-hop landings at 3, everything else at 0. -/
def lv (g : GSem nD τ sig) (_ : Unit) : ℕ :=
  match g.2 with | .reg _ => 1 | .dma q => if (dq.symm q).1 = 2 then 2 else if (dq.symm q).1 = 4 then 3 else 0

/-- Other cores' cells carry none, -/
theorem L_of_ne (g : GSem nD τ sig) (h : g.1.2 ≠ .tc) : L g = ∅ := if_neg h
/-- a TensorCore's cells carry it. -/
theorem mem_L (c : Dev nD) (sm : SemLoc sig) (u : Unit) : u ∈ L ((c : Thread nD τ), sm) := by
  rw [show L ((c : Thread nD τ), sm) = {()} from if_pos rfl]; exact Finset.mem_singleton_self _
/-- A transfer cell's level: first-hop landings below second-hop ones, the rest at the bottom. -/
theorem lv_cell (c : Dev nD) (k : Fin 7) (i : Fin 8) (u : Unit) : lv (cell c k i) u = if k = 2 then 2 else if k = 4 then 3 else 0 := by
  show (if (dq.symm (dq (k, i))).1 = 2 then 2 else if (dq.symm (dq (k, i))).1 = 4 then 3 else 0) = _
  rw [Equiv.symm_apply_apply]

/-- A wait at a cell below 2 is allowed while any transfer is owed; -/
theorem may_low (c : Dev nD) (sm : SemLoc sig) (h : lv ((c : Thread nD τ), sm) () ≤ 1) (j k : ℕ) :
    (levAts L lv : sProp 𝕄) ⊢ MayWait (c : Thread nD τ) sm () (debt c j k) :=
  MayOwe.of_cut (L := L) (lev := lv) 1 (fun p hp => by rw [Finset.mem_singleton.mp hp]; exact mem_L c sm _)
    (fun g u hg => by rcases debt_pos hg with ⟨i, rfl⟩ | ⟨i, -, rfl⟩ <;> exact mem_L _ _ _)
    (fun p hp => by rw [Finset.mem_singleton.mp hp]; exact h)
    (fun g u hg => by rcases debt_pos hg with ⟨i, rfl⟩ | ⟨i, -, rfl⟩ <;> rw [lv_cell] <;> decide)
/-- a wait for a first-hop landing while only second hops are. -/
theorem may_y (c : Dev nD) (i : Fin 8) (k : ℕ) :
    (levAts L lv : sProp 𝕄) ⊢ MayWait (c : Thread nD τ) (.dma (dq (2, i))) () (debt c 8 k) :=
  MayOwe.of_cut (L := L) (lev := lv) 2 (fun p hp => by rw [Finset.mem_singleton.mp hp]; exact mem_L c _ _)
    (fun g u hg => by rcases debt_pos hg with ⟨i, rfl⟩ | ⟨i, -, rfl⟩ <;> exact mem_L _ _ _)
    (fun p hp => by rw [Finset.mem_singleton.mp hp]; exact (lv_cell c 2 i ()).le)
    (fun g u hg => by
      rcases debt_pos hg with ⟨i, rfl⟩ | ⟨i, h, rfl⟩
      · rw [lv_cell]; decide
      · exact absurd i.isLt (by omega))
/-- A wait while nothing is owed is always allowed. -/
theorem may_zero (c : Dev nD) (sm : SemLoc sig) : (levAts L lv : sProp 𝕄) ⊢ MayWait (c : Thread nD τ) sm () (debt c 8 8) := by
  rw [debt_done, MayWait_zero]; iintro -; iempintro

end Cert.TwoHop
-- ==== Proof.Steps.lean ====
/- One operation of the body at a time.

   Each lemma takes what an operation uses of a device's resources to what it leaves, memory stated as the
   values read through the operation's own row range: a load, a store, a local copy, a copy to another
   device, and a wait for one transfer. They are stated for any chunk and any of the seven arrays. -/
module

public import proofs.«01_k».proof.Proof.Schedule

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- There are no loops to count. -/
abbrev 𝒱₀ : Variants := Variants.none
/-- The weakest precondition of a part of device `c`'s body. -/
abbrev wpc (c : Dev nD) (p : Body F) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## The records every step may use -/

/-- A device's cells: its barrier cell and its transfers' cells. -/
abbrev J : Type := Unit ⊕ (Fin 7 × Fin 8)
/-- The cell each names. -/
abbrev kc (cj : Dev nD × J) : GSem nD τ sig := match cj.2 with
  | .inl _ => barCell cj.1 | .inr ki => cell cj.1 ki.1 ki.2

/-- Every cell's invariant, at the names `K`, that every cell has reached round 0, and the levels. -/
def ctx (K : Dev nD × J → ℕ) : sProp 𝕄 :=
  iprop((bigSep Finset.univ fun cj => cellInv ER (rd m) (K cj) (kc cj)) ∗ (bigSep Finset.univ fun cj => reached ER (kc cj) 0) ∗ levAts L lv)

/-- The records may be used any number of times. -/
instance ctx_persistent (K : Dev nD × J → ℕ) : BI.Persistent (ctx m K) := by unfold ctx; infer_instance

variable (K : Dev nD × J → ℕ)

/-- Every cell's invariant is among them, -/
theorem ctx_inv (cj : Dev nD × J) : ctx m K ⊢ cellInv ER (rd m) (K cj) (kc cj) := by
  unfold ctx; iintro ⟨H, -, -⟩
  iapply (show (bigSep Finset.univ fun cj => (cellInv ER (rd m) (K cj) (kc cj) : sProp 𝕄)) ⊢ cellInv ER (rd m) (K cj) (kc cj) from
    bigSep_elim (Finset.mem_univ cj)); iexact H
/-- and that its round has been reached. -/
theorem ctx_reached (cj : Dev nD × J) : ctx m K ⊢ reached ER (kc cj) 0 := by
  unfold ctx; iintro ⟨-, H, -⟩
  iapply (show (bigSep Finset.univ fun cj => (reached ER (kc cj) 0 : sProp 𝕄)) ⊢ reached ER (kc cj) 0 from
    bigSep_elim (Finset.mem_univ cj)); iexact H
/-- Device `c` owes `O`, whatever its waits so far. -/
def owing (c : Dev nD) (O : CellTallies nD τ sig Unit) : sProp 𝕄 := iprop(∃ W, owes (c : Thread nD τ) O W)

/-- The token of the one transfer on a cell. -/
abbrev tok (c : Dev nD) (k : Fin 7) (i : Fin 8) : sProp 𝕄 := dutyTok ER (cell c k i) 0 false
/-- The right to wait for that transfer, at the launch. -/
abbrev pos (c : Dev nD) (k : Fin 7) (i : Fin 8) : sProp 𝕄 := atPos ER (cell c k i) 0 ∅ 0
/-- The same once it has been waited for. -/
abbrev posd (c : Dev nD) (k : Fin 7) (i : Fin 8) : sProp 𝕄 := atPos ER (cell c k i) 1 ∅ 0
/-- That the transfer's credit will come. -/
abbrev crd (c : Dev nD) (k : Fin 7) (i : Fin 8) : sProp 𝕄 := cred (tallyAt (cell c k i) () (credit k))

/-! ## Loads and stores -/

/-- A load from a view a device owns yields what the view holds. -/
theorem load_owns (c : Dev nD) {cs : CoreSpace} {s : Shape} {e : EltTy} {b : Memref sig .tc cs s e} {r : Rect s} {hr : ∀ a, r.stride a = 1}
    {hl : b.view.LoadsAt r.toLoadRect} {q : PosShare TreeShare} {X : r.shape.Idx → Elt F e} {k : (r.shape.Idx → Elt F e) → Body F} {Q : PUnit → sProp 𝕄} :
    (ownsTc c (b.slice r hr) q X : sProp 𝕄) ⊢ iprop((ownsTc c (b.slice r hr) q X -∗ wpc c (k X) Q) -∗ wpc c (.op (.load b r.toLoadRect hl) k) Q) := by
  unfold ownsTc owns
  iintro ⟨%f, %hf, H⟩ Hk
  subst hf
  iapply (wp_load_rect 𝒱₀ (c : Thread nD τ) none Set.univ (m := b) (r := r) (S := (b.access r).set) (f := f) subset_rfl) $$ H
  iintro H
  iapply Hk
  iexists f
  isplitr
  · ipureintro; rfl
  iexact H

/-- A store into a view a device owns leaves the stored values there. -/
theorem store_owns (c : Dev nD) {cs : CoreSpace} {s : Shape} {e : EltTy} {b : Memref sig .tc cs s e} {r : Rect s} {hr : ∀ a, r.stride a = 1}
    {w : r.shape.Idx → Elt F e} {hx : (b.access r).Stores Finset.univ} {hm : Finset.univ = Finset.univ ∨ ∀ a, r.stride a = 1} {Y : r.shape.Idx → Elt F e}
    {k : PUnit → Body F} {Q : PUnit → sProp 𝕄} :
    (ownsTc c (b.slice r hr) fullShare Y : sProp 𝕄)
      ⊢ iprop((ownsTc c (b.slice r hr) fullShare w -∗ wpc c (k ⟨⟩) Q) -∗ wpc c (.op (.store b r w Finset.univ hx hm) k) Q) := by
  unfold ownsTc owns
  iintro ⟨%f, -, H⟩ Hk
  iapply (wp_store 𝒱₀ (c : Thread nD τ) none Set.univ (m := b) (r := r) (Mk := Finset.univ) (S := (b.access r).set) (f := f) subset_rfl) $$ H
  iintro H
  iapply Hk
  iexists _
  isplitr
  swap
  · iexact H
  · ipureintro; exact View.read_write_univ _ _

/-! ## Transfers and waits -/

/-- What a view holds after a copy into all of it. -/
theorem owns_written (c : Dev nD) {sp : Space} {s : Shape} {e : EltTy} (d : Memref sig .tc sp s e) (f : d.view.ty.Contents (Elt F)) (X : s.Idx → Elt F e) :
    (d.view.loc (c : Thread nD τ) ↦[d.view.set]{fullShare} (d.view.write (Elt F) f X Finset.univ) : sProp 𝕄) ⊢ ownsTc c d fullShare X := by
  refine (owns_intro (c : Thread nD τ) d fullShare _).trans ?_
  rw [View.read_write_univ]

/-- A local copy on transfer cell `i` of array `k`. -/
theorem copy_cell (c : Dev nD) (k : Fin 7) (i : Fin 8) {q : DmaSem sig} (hq : q = dq (k, i)) {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := Proc.tc) sp (.dma q) (.here dst)} (hN : dst.view.dmaCredit = credit k) {sh : PosShare TreeShare} {X : s.Idx → Elt F e}
    (hpay : iprop(ownsTc c dst fullShare X ∗ ownsTc c src sh X) ⊢ dmaPay m c k i) {kk : PUnit → Body F} {Q : PUnit → sProp 𝕄} :
    iprop(ctx m K ∗ ownsTc c src sh X ∗ (∃ Y, ownsTc c dst fullShare Y) ∗ tok c k i)
      ⊢ iprop((crd c k i -∗ wpc c (kk ⟨⟩) Q) -∗ wpc c (.op (.enqueueDma src (.here dst) (.dma q) hsrc hdst hsem) kk) Q) := by
  subst hq
  unfold ownsTc owns at *
  iintro ⟨#Hc, ⟨%fs, %hfs, Hs⟩, ⟨%Y, %fd, -, Hd⟩, Ht⟩
  iapply (Rounds.wp_copy_pointsTo 𝒱₀ ER (rd m) (c : Thread nD τ) none (κ := K (c, .inr (k, i))) (r := 0) (d := false) (q := sh) (fs := fs) (fd := fd)
    (by rw [duties_cell]; exact Finset.mem_singleton_self _) () (credit k) (show dst.view.amount (.dma (dq (k, i))) = credit k from hN) (amount_cell m c k i false)
    (by
      rw [payload_cell]
      refine BIBase.Entails.trans ?_ hpay
      subst hfs
      have hw := owns_written (F := F) c dst fd (src.view.read (Elt F) fs)
      unfold ownsTc owns at hw
      iintro ⟨Hd, Hs⟩
      isplitl [Hd]
      · iapply hw; iexact Hd
      iexists fs; isplitr
      · ipureintro; rfl
      · iexact Hs))
  isplitr; · iapply (ctx_inv m K (c, .inr (k, i))); iexact Hc
  isplitl [Hs]; · iexact Hs
  isplitl [Hd]; · iexact Hd
  isplitl [Ht]; · iexact Ht
  iapply (ctx_reached m K (c, .inr (k, i))); iexact Hc

/-- A copy to device `n`, leaving on array `k₁` here and arriving on array `k₂` there. -/
theorem send_cell (c n' n : Dev nD) (hn : n' = n) (k₁ k₂ : Fin 7) (i : Fin 8) {q₁ q₂ : DmaSem sig} (hq₁ : q₁ = dq (k₁, i)) (hq₂ : q₂ = dq (k₂, i))
    {sp sp' : Space} {s : Shape} {e : EltTy}
    {src : Memref sig .tc sp s e} {dst : Memref sig .tc sp' s e} {hsc : dst.view.ref.isScScratch = false} {hsrc : src.view.WordExact} {hdst : dst.view.WordExact}
    {hsem : DmaTarget.Typed (nD := nD) (τ := τ) (p := Proc.tc) sp (.dma q₂) (.remote (Dev.tc n' : Thread nD τ) dst (.dma q₁) hsc)}
    (hN : dst.view.dmaCredit = credit k₂) (hk : credit k₁ = credit k₂)
    {O₁ O : CellTallies nD τ sig Unit} (hO : O₁ = O + tallyAt (cell n k₂ i) () (credit k₂)) {sh : PosShare TreeShare} {X : s.Idx → Elt F e}
    (hpay₁ : (ownsTc c src sh X : sProp 𝕄) ⊢ dmaPay m c k₁ i) (hpay₂ : (ownsTc n dst fullShare X : sProp 𝕄) ⊢ dmaPay m n k₂ i)
    {kk : PUnit → Body F} {Q : PUnit → sProp 𝕄} :
    iprop(ctx m K ∗ ownsTc c src sh X ∗ (∃ Y, ownsTc n dst fullShare Y) ∗ owing c O₁ ∗ tok c k₁ i ∗ tok n k₂ i)
      ⊢ iprop(((crd c k₁ i ∗ owing c O) -∗ wpc c (kk ⟨⟩) Q)
        -∗ wpc c (.op (.enqueueDma src (.remote (Dev.tc n' : Thread nD τ) dst (.dma q₁) hsc) (.dma q₂) hsrc hdst hsem) kk) Q) := by
  subst hn hq₁ hq₂
  unfold ownsTc owns at *
  unfold owing
  iintro ⟨#Hc, ⟨%fs, %hfs, Hs⟩, ⟨%Y, %fd, -, Hd⟩, ⟨%W, HO⟩, Ht₁, Ht₂⟩ Hk
  iapply (Rounds.wp_send_pointsTo 𝒱₀ ER (rd m) (c : Thread nD τ) none (κ₁ := K (c, .inr (k₁, i))) (κ₂ := K (n', .inr (k₂, i)))
    (r₁ := 0) (r₂ := 0) (d₁ := false) (d₂ := false) (q := sh) (fs := fs) (fd := fd)
    (by rw [duties_cell]; exact Finset.mem_singleton_self _) (by rw [duties_cell]; exact Finset.mem_singleton_self _) () () (credit k₂)
    (show dst.view.amount (.dma (dq (k₂, i))) = credit k₂ from hN)
    ((amount_cell m c k₁ i false).trans hk) (amount_cell m n' k₂ i false) O hO (W := W)
    (by
      rw [payload_cell]
      refine BIBase.Entails.trans ?_ hpay₁
      iintro H; iexists fs; isplitr
      · ipureintro; exact hfs
      · iexact H)
    (by
      rw [payload_cell]
      refine BIBase.Entails.trans ?_ hpay₂
      subst hfs
      exact owns_written n' dst fd _)) $$ [Hs Hd HO Ht₁ Ht₂]
  · isplitr; · iapply (ctx_inv m K (c, .inr (k₁, i))); iexact Hc
    isplitr; · iapply (ctx_inv m K (n', .inr (k₂, i))); iexact Hc
    isplitl [Hs]; · iexact Hs
    isplitl [Hd]; · iexact Hd
    isplitl [HO]; · iexact HO
    isplitl [Ht₁]; · iexact Ht₁
    isplitr; · iapply (ctx_reached m K (c, .inr (k₁, i))); iexact Hc
    isplitl [Ht₂]; · iexact Ht₂
    iapply (ctx_reached m K (n', .inr (k₂, i))); iexact Hc
  rw [← hk]
  iintro ⟨Hcr, HO⟩
  iapply Hk
  isplitl [Hcr]; · iexact Hcr
  iexists W; iexact HO

/-- The wait for the transfer on cell `i` of array `k`. -/
theorem wait_cell (c : Dev nD) (k : Fin 7) (i : Fin 8) {q : DmaSem sig} (hq : q = dq (k, i)) {sp sp' : Space} {s : Shape} {e : EltTy}
    {src : Memref sig .tc sp s e} {dst : Memref sig .tc sp' s e} {hsrc : src.view.WordExact} {hdst : dst.view.WordExact}
    (hN : dst.view.dmaCredit = credit k) {O : CellTallies nD τ sig Unit}
    (hmay : (levAts L lv : sProp 𝕄) ⊢ MayWait (c : Thread nD τ) (.dma (dq (k, i))) () O) {kk : PUnit → Body F} {Q : PUnit → sProp 𝕄} :
    iprop(ctx m K ∗ crd c k i ∗ owing c O ∗ pos c k i)
      ⊢ iprop(((owing c O ∗ posd c k i ∗ dmaPay m c k i) -∗ wpc c (kk ⟨⟩) Q) -∗ wpc c (.op (.waitDma2 q src dst hsrc hdst) kk) Q) := by
  subst hq
  have hl : ctx m K ⊢ MayWait (c : Thread nD τ) (.dma (dq (k, i))) () O := by
    unfold ctx; iintro ⟨-, -, H⟩; iapply hmay; iexact H
  unfold owing
  iintro ⟨#Hc, Hcr, ⟨%W, HO⟩, Hp⟩ Hk
  iapply (Rounds.wp_wait_rest_token 𝒱₀ ER (rd m) (c : Thread nD τ) none (κ := K (c, .inr (k, i)))
    (wpE_waitDma2_eq 𝒱₀ (c : Thread nD τ) none Set.univ) (Set.mem_univ _) () (O := O) (W := W) (R := 0) (m := 0) (T := ∅)
    (by rw [Nat.zero_add, expect_cell]; exact hN)) $$ [Hcr HO Hp]
  · isplitr; · iapply (ctx_inv m K (c, .inr (k, i))); iexact Hc
    isplitl [Hcr]; · rw [hN]; iexact Hcr
    isplitl [HO]; · iexact HO
    isplitr; · iapply hl; iexact Hc
    iexact Hp
  iintro ⟨HO, Hp, -, Hpay⟩
  ihave Hpay := (Entails.of_eq (rest_cell m c k i)) $$ Hpay
  iapply Hk
  isplitl [HO]; · iexists _; iexact HO
  isplitl [Hp]; · iexact Hp
  iexact Hpay

end Cert.TwoHop
-- ==== Proof.Stages.lean ====
/- What one step of each sweep does.

   For chunk `i` of device `c`: the fetch starts a copy of the argument's rows; the send waits for it, rounds the
   rows and sends them to the y-partner; the reduction waits for the y-partner's rows, adds, sends the sum to the
   x-partner and stores it; the collection waits for the x-partner's sum and stores it; the drain waits for the
   stores and for the sends to have left. -/
module

public import proofs.«01_k».proof.Proof.Steps
public import Idealize.ShloMosaic.Lib.MemrefSat

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ) (c : Dev nD) (i : Fin 8)

/-! ## What each copy credits -/

/-- What a transfer credits, by the buffer it names: a fetch, -/
theorem credit_x : (chunkM xM i).view.dmaCredit = credit 0 := rfl
/-- the first hop, -/
theorem credit_yr : (chunkM yrM i).view.dmaCredit = credit 2 := rfl
/-- its leaving, -/
theorem credit_snd : (chunkM sndM i).view.dmaCredit = credit 1 := rfl
/-- the second hop's leaving, -/
theorem credit_sum : (chunkM sumM i).view.dmaCredit = credit 3 := rfl
/-- the second hop, -/
theorem credit_xr : (chunkM xrM i).view.dmaCredit = credit 4 := rfl
/-- where leaving and arriving agree on the first hop -/
theorem credit_y : credit 1 = credit 2 := rfl
/-- and on the second, -/
theorem credit_to_x : credit 3 = credit 4 := rfl
/-- a store of the own half, -/
theorem credit_mine : (mineM outM c i).view.dmaCredit = credit 5 := rfl
/-- and of the other. -/
theorem credit_other : (otherM outM c i).view.dmaCredit = credit 6 := rfl

/-! ## What each step takes and leaves -/

attribute [local irreducible] credit

/-- Starting a fetch takes the argument's rows, the place for them and the transfer's token, -/
def fetchA : sProp 𝕄 := iprop(ownsTc c (mineM argM c i) fullShare (xB m c i) ∗ chunkAny c xM i ∗ tok c 0 i)
/-- and leaves a credit to wait with. -/
def fetchB : sProp 𝕄 := crd (F := F) c 0 i

/-- What the first hop's step of a chunk takes, -/
def sendA : sProp 𝕄 :=
  iprop(crd (F := F) c 0 i ∗ pos c 0 i ∗ chunkAny c sndM i ∗ chunkAny (py c) yrM i ∗ tok c 1 i ∗ tok (py c) 2 i)
/-- and leaves. -/
def sendB : sProp 𝕄 :=
  iprop(ownsTc c (chunkM xM i) fullShare (xB m c i) ∗ ownsTc c (mineM argM c i) fullShare (xB m c i) ∗ posd c 0 i ∗ crd c 1 i)

/-- What the adding step of a chunk takes, -/
def reduceA : sProp 𝕄 :=
  iprop(crd c 2 i ∗ pos c 2 i ∗ ownsTc c (chunkM xM i) fullShare (xB m c i) ∗ chunkAny c sumM i ∗ chunkAny (px c) xrM i ∗ tok c 3 i ∗ tok (px c) 4 i
    ∗ tok c 5 i ∗ ∃ Y, ownsTc c (mineM outM c i) fullShare Y)
/-- and leaves. -/
def reduceB : sProp 𝕄 :=
  iprop(ownsTc c (chunkM xM i) fullShare (xB m c i) ∗ ownsTc c (chunkM yrM i) fullShare (sB m (py c) i) ∗ posd c 2 i ∗ crd c 3 i ∗ crd c 5 i)

/-- Storing the x-partner's sum takes its landing's credit and place, the store's token and the rows stored to, -/
def collectA : sProp 𝕄 := iprop(crd (F := F) c 4 i ∗ pos c 4 i ∗ tok c 6 i ∗ ∃ Y, ownsTc c (otherM outM c i) fullShare Y)
/-- and leaves the place moved on and a credit for the store. -/
def collectB : sProp 𝕄 := iprop(posd (F := F) c 4 i ∗ crd c 6 i)

/-- What the last waits for a chunk take, -/
def drainA : sProp 𝕄 :=
  iprop((crd (F := F) c 5 i ∗ pos c 5 i) ∗ (crd c 6 i ∗ pos c 6 i) ∗ (crd c 1 i ∗ pos c 1 i) ∗ crd c 3 i ∗ pos c 3 i)
/-- and leave. -/
def drainB : sProp 𝕄 :=
  iprop((posd c 5 i ∗ dmaPay m c 5 i) ∗ (posd c 6 i ∗ dmaPay m c 6 i) ∗ (posd c 1 i ∗ dmaPay m c 1 i) ∗ posd c 3 i ∗ dmaPay m c 3 i)

/-! ## The steps -/

/-- The fetch of a chunk starts its copy. -/
theorem fetch_step (S : sProp 𝕄) : iprop(ctx m K ∗ fetchA m c i ∗ S) ⊢ wpc c (fetch F c i) fun _ => iprop(fetchB c i ∗ S) := by
  unfold fetchA fetchB fetch chunkAny
  simp only [Prog.lift]
  iintro ⟨#Hc, ⟨Hs, Hd, Ht⟩, HS⟩
  iapply (copy_cell m K c 0 i (dq_in i) (credit_x i)
    (by unfold dmaPay; exact BIBase.Entails.rfl)) $$ [Hs Hd Ht]
  · isplitr; · iexact Hc
    isplitl [Hs]; · iexact Hs
    isplitl [Hd]; · iexact Hd
    iexact Ht
  iintro Hcr
  rw [wpc, wp_ret]; imodintro
  isplitl [Hcr]; · iexact Hcr
  iexact HS

/-- The send of a chunk takes it out of the fetch, rounds it, and sends it to the y-partner. -/
theorem send_step : iprop(ctx m K ∗ sendA c i ∗ owing c (debt c i.val 0))
    ⊢ wpc c (send c i) fun _ => iprop(sendB m c i ∗ owing c (debt c (i.val + 1) 0)) := by
  unfold sendA sendB send chunkAny
  simp only [Prog.lift, Prog.bind_op, Prog.bind_ret]
  iintro ⟨#Hc, ⟨Hcr, Hp, ⟨%Y, Hsnd⟩, Hyr, Ht1, Ht2⟩, HO⟩
  iapply (wait_cell m K c 0 i (dq_in i) (credit_x i) (may_low c _ (by rw [lv_cell]; decide) i.val 0)) $$ [Hcr Hp HO]
  · isplitr; · iexact Hc
    isplitl [Hcr]; · iexact Hcr
    isplitl [HO]; · iexact HO
    iexact Hp
  unfold dmaPay
  iintro ⟨HO, Hp, Hx, Harg⟩
  iapply (load_owns c) $$ Hx; iintro Hx
  iapply (load_owns c) $$ Hsnd; iintro Hsnd
  iapply (store_owns c) $$ Hsnd; iintro Hsnd
  iapply (send_cell m K c (yTo c i) (py c) (yTo_eq c i) 1 2 i (dq_ysend i) (dq_yrecv i) (credit_yr i) credit_y (debt_y c i 0)
    (X := sB m c i) (sh := fullShare)
    (by unfold dmaPay; exact BIBase.Entails.rfl) (by unfold dmaPay; rw [py_py])) $$ [Hsnd Hyr HO Ht1 Ht2]
  · isplitr; · iexact Hc
    isplitl [Hsnd]; · iexact Hsnd
    isplitl [Hyr]; · iexact Hyr
    isplitl [HO]; · iexact HO
    isplitl [Ht1] <;> iassumption
  iintro ⟨Hcr, HO⟩
  rw [wpc, wp_ret]; imodintro
  isplitr [HO]; swap; · iexact HO
  isplitl [Hx]; · iexact Hx
  isplitl [Harg]; · iexact Harg
  isplitl [Hp]; · iexact Hp
  iexact Hcr

/-- The reduction of a chunk adds the y-partner's rows, sends the sum on and stores it. -/
theorem reduce_step : iprop(ctx m K ∗ reduceA m c i ∗ owing c (debt c 8 i.val))
    ⊢ wpc c (reduce c i) fun _ => iprop(reduceB m c i ∗ owing c (debt c 8 (i.val + 1))) := by
  unfold reduceA reduceB reduce chunkAny
  simp only [Prog.lift, Prog.bind_op, Prog.bind_ret]
  iintro ⟨#Hc, ⟨Hcr, Hp, Hx, ⟨%Y, Hsum⟩, Hxr, Ht3, Ht4, Ht5, Hout⟩, HO⟩
  iapply (wait_cell m K c 2 i (dq_yrecv i) (credit_yr i) (may_y c i i.val)) $$ [Hcr Hp HO]
  · isplitr; · iexact Hc
    isplitl [Hcr]; · iexact Hcr
    isplitl [HO]; · iexact HO
    iexact Hp
  unfold dmaPay
  iintro ⟨HO, Hp, Hyr⟩
  iapply (load_owns c) $$ Hx; iintro Hx
  iapply (load_owns c) $$ Hyr; iintro Hyr
  iapply (load_owns c) $$ Hsum; iintro Hsum
  iapply (store_owns c) $$ Hsum; iintro Hsum
  ihave Hh := (show (ownsTc c (chunkM sumM i) fullShare (added (xB m c i) (sB m (py c) i)) : sProp 𝕄) ⊢ _ from
    (owns_halves (c : Thread nD τ) (chunkM sumM i) fullShare (tB m c i)).1) $$ Hsum
  icases Hh with ⟨Hl, Hr⟩
  iapply (send_cell m K c (xTo c i) (px c) (xTo_eq c i) 3 4 i (dq_xsend i) (dq_xrecv i) (credit_xr i) credit_to_x (debt_x c 8 i)
    (X := tB m c i) (sh := fullShare.left)
    (by unfold dmaPay; exact BIBase.Entails.rfl) (by unfold dmaPay; rw [px_px])) $$ [Hl Hxr HO Ht3 Ht4]
  · isplitr; · iexact Hc
    isplitl [Hl]; · iexact Hl
    isplitl [Hxr]; · iexact Hxr
    isplitl [HO]; · iexact HO
    isplitl [Ht3] <;> iassumption
  iintro ⟨Hcr3, HO⟩
  iapply (copy_cell m K c 5 i (dq_outh i) (credit_mine c i) (X := tB m c i) (sh := fullShare.right)
    (by unfold dmaPay; exact BIBase.Entails.rfl)) $$ [Hr Hout Ht5]
  · isplitr; · iexact Hc
    isplitl [Hr]; · iexact Hr
    isplitl [Hout]; · iexact Hout
    iexact Ht5
  iintro Hcr5
  rw [wpc, wp_ret]; imodintro
  isplitr [HO]; swap; · iexact HO
  isplitl [Hx]; · iexact Hx
  isplitl [Hyr]; · iexact Hyr
  isplitl [Hp]; · iexact Hp
  isplitl [Hcr3] <;> iassumption

/-- The collection of a chunk stores the x-partner's sum. -/
theorem collect_step : iprop(ctx m K ∗ collectA c i ∗ owing c (debt c 8 8)) ⊢ wpc c (collect F c i) fun _ => iprop(collectB c i ∗ owing c (debt c 8 8)) := by
  unfold collectA collectB collect
  simp only [Prog.lift, Prog.bind_op, Prog.bind_ret]
  iintro ⟨#Hc, ⟨Hcr, Hp, Ht, Hout⟩, HO⟩
  iapply (wait_cell m K c 4 i (dq_xrecv i) (credit_xr i) (may_zero c _)) $$ [Hcr Hp HO]
  · isplitr; · iexact Hc
    isplitl [Hcr]; · iexact Hcr
    isplitl [HO]; · iexact HO
    iexact Hp
  unfold dmaPay
  iintro ⟨HO, Hp, Hxr⟩
  iapply (copy_cell m K c 6 i (dq_outo i) (credit_other c i) (X := tB m (px c) i) (sh := fullShare)
    (by unfold dmaPay; exact BIBase.Entails.rfl)) $$ [Hxr Hout Ht]
  · isplitr; · iexact Hc
    isplitl [Hxr]; · iexact Hxr
    isplitl [Hout]; · iexact Hout
    iexact Ht
  iintro Hcr
  rw [wpc, wp_ret]; imodintro
  isplitr [HO]; swap; · iexact HO
  isplitl [Hp] <;> iassumption

/-- The drain of a chunk waits for its stores and for its sends to have left. -/
theorem drain_step : iprop(ctx m K ∗ drainA c i ∗ owing c (debt c 8 8)) ⊢ wpc c (drain F c i) fun _ => iprop(drainB m c i ∗ owing c (debt c 8 8)) := by
  unfold drainA drainB drain
  simp only [Prog.lift, Prog.bind_op, Prog.bind_ret]
  iintro ⟨#Hc, ⟨⟨Hcr5, Hp5⟩, ⟨Hcr6, Hp6⟩, ⟨Hcr1, Hp1⟩, Hcr3, Hp3⟩, HO⟩
  iapply (wait_cell m K c 5 i (dq_outh i) (credit_mine c i) (may_zero c _)) $$ [Hcr5 Hp5 HO]
  · isplitr; · iexact Hc
    isplitl [Hcr5]; · iexact Hcr5
    isplitl [HO]; · iexact HO
    iexact Hp5
  iintro ⟨HO, H5⟩
  iapply (wait_cell m K c 6 i (dq_outo i) (credit_other c i) (may_zero c _)) $$ [Hcr6 Hp6 HO]
  · isplitr; · iexact Hc
    isplitl [Hcr6]; · iexact Hcr6
    isplitl [HO]; · iexact HO
    iexact Hp6
  iintro ⟨HO, H6⟩
  iapply (wait_cell m K c 1 i (dq_ysend i) (credit_snd i) (may_zero c _)) $$ [Hcr1 Hp1 HO]
  · isplitr; · iexact Hc
    isplitl [Hcr1]; · iexact Hcr1
    isplitl [HO]; · iexact HO
    iexact Hp1
  iintro ⟨HO, H1⟩
  iapply (wait_cell m K c 3 i (dq_xsend i) (credit_sum i) (may_zero c _)) $$ [Hcr3 Hp3 HO]
  · isplitr; · iexact Hc
    isplitl [Hcr3]; · iexact Hcr3
    isplitl [HO]; · iexact HO
    iexact Hp3
  iintro ⟨HO, H3⟩
  rw [wpc, wp_ret]; imodintro
  isplitr [HO]; swap; · iexact HO
  isplitl [H5]; · iexact H5
  isplitl [H6]; · iexact H6
  isplitl [H1] <;> iassumption

end Cert.TwoHop
-- ==== Proof.Sweep.lean ====
/- Eight steps one after another.

   If step `i` takes its resources `A i` and a running state `S i` to `B i` and `S (i + 1)`, the whole sweep takes
   all the `A i` and `S 0` to all the `B i` and `S 8`. -/
module

public import proofs.«01_k».proof.Proof.Steps

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A conjunction over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- One part of the body, then the rest. -/
theorem wp_then (c : Dev nD) {p k : Body F} {Q : PUnit → sProp 𝕄} {P R : sProp 𝕄} (h : P ⊢ wpc c p fun _ => R) :
    P ⊢ iprop((R -∗ wpc c k Q) -∗ wpc c (p >>= fun _ => k) Q) := by
  show P ⊢ iprop(_ -∗ wp _ _ _ (p >>= fun _ => k) Q)
  rw [wp_bind]
  iintro HP Hk
  ihave H := h $$ HP
  iapply (wp_wand _ _ _) $$ H
  iintro %a HR
  iapply Hk; iexact HR

/-- A sweep of eight steps, then the rest. -/
theorem wp_sweep (c : Dev nD) {f : Fin 8 → Body F} {k : Body F} {Q : PUnit → sProp 𝕄} (P : sProp 𝕄) [BI.Persistent P] {A B : Fin 8 → sProp 𝕄}
    {S : ℕ → sProp 𝕄} (h : ∀ i : Fin 8, iprop(P ∗ A i ∗ S i.val) ⊢ wpc c (f i) fun _ => iprop(B i ∗ S (i.val + 1))) :
    iprop(P ∗ bigSep Finset.univ A ∗ S 0) ⊢ iprop(((bigSep Finset.univ B ∗ S 8) -∗ wpc c k Q) -∗ wpc c (sweep f k) Q) := by
  rw [bigSep_fin8, bigSep_fin8]
  unfold sweep
  iintro ⟨#HP, ⟨A0, A1, A2, A3, A4, A5, A6, A7⟩, HS⟩ Hk
  iapply (wp_then c (show iprop(P ∗ A 0 ∗ S 0) ⊢ wpc c (f 0) fun _ => iprop(B 0 ∗ S 1) from h 0)) $$ [A0 HS]
  · isplitr; · iexact HP
    isplitl [A0]; · iexact A0
    iexact HS
  iintro ⟨B0, HS⟩
  iapply (wp_then c (show iprop(P ∗ A 1 ∗ S 1) ⊢ wpc c (f 1) fun _ => iprop(B 1 ∗ S 2) from h 1)) $$ [A1 HS]
  · isplitr; · iexact HP
    isplitl [A1]; · iexact A1
    iexact HS
  iintro ⟨B1, HS⟩
  iapply (wp_then c (show iprop(P ∗ A 2 ∗ S 2) ⊢ wpc c (f 2) fun _ => iprop(B 2 ∗ S 3) from h 2)) $$ [A2 HS]
  · isplitr; · iexact HP
    isplitl [A2]; · iexact A2
    iexact HS
  iintro ⟨B2, HS⟩
  iapply (wp_then c (show iprop(P ∗ A 3 ∗ S 3) ⊢ wpc c (f 3) fun _ => iprop(B 3 ∗ S 4) from h 3)) $$ [A3 HS]
  · isplitr; · iexact HP
    isplitl [A3]; · iexact A3
    iexact HS
  iintro ⟨B3, HS⟩
  iapply (wp_then c (show iprop(P ∗ A 4 ∗ S 4) ⊢ wpc c (f 4) fun _ => iprop(B 4 ∗ S 5) from h 4)) $$ [A4 HS]
  · isplitr; · iexact HP
    isplitl [A4]; · iexact A4
    iexact HS
  iintro ⟨B4, HS⟩
  iapply (wp_then c (show iprop(P ∗ A 5 ∗ S 5) ⊢ wpc c (f 5) fun _ => iprop(B 5 ∗ S 6) from h 5)) $$ [A5 HS]
  · isplitr; · iexact HP
    isplitl [A5]; · iexact A5
    iexact HS
  iintro ⟨B5, HS⟩
  iapply (wp_then c (show iprop(P ∗ A 6 ∗ S 6) ⊢ wpc c (f 6) fun _ => iprop(B 6 ∗ S 7) from h 6)) $$ [A6 HS]
  · isplitr; · iexact HP
    isplitl [A6]; · iexact A6
    iexact HS
  iintro ⟨B6, HS⟩
  iapply (wp_then c (show iprop(P ∗ A 7 ∗ S 7) ⊢ wpc c (f 7) fun _ => iprop(B 7 ∗ S 8) from h 7)) $$ [A7 HS]
  · isplitr; · iexact HP
    isplitl [A7]; · iexact A7
    iexact HS
  iintro ⟨B7, HS⟩
  iapply Hk
  isplitr [HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iexact HS

end Cert.TwoHop
-- ==== Proof.Body.lean ====
/- The whole body, from what a device starts with to what it ends with.

   The handshake exchanges the landing buffers; then the five sweeps pass each chunk's resources along. -/
module

public import proofs.«01_k».proof.Proof.Stages
public import proofs.«01_k».proof.Proof.Sweep

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ) (c : Dev nD)

/-- One resource for every chunk. -/
abbrev all (Φ : Fin 8 → sProp 𝕄) : sProp 𝕄 := bigSep Finset.univ Φ

/-! ## The handshake -/

/-- What the handshake uses: the tokens of the two signals, the credit of the wait and the right to it. -/
def hand : sProp 𝕄 :=
  iprop(dutyTok ER (barCell (py c)) 0 false ∗ dutyTok ER (barCell (px c)) 0 true ∗ cred (tallyAt (barCell c) () 2) ∗ atPos ER (barCell c) 0 ∅ 0)

omit [FloatOps F] in
/-- What a device hands its y-partner at the barrier: its own first-hop landing buffer, -/
theorem barPay_py : barPay (F := F) (py c) false = all fun i => chunkAny c yrM i := by
  show (bigSep Finset.univ fun i => chunkAny (py (py c)) yrM i) = _
  rw [py_py]
omit [FloatOps F] in
/-- and its x-partner: its own second-hop landing buffer. -/
theorem barPay_px : barPay (F := F) (px c) true = all fun i => chunkAny c xrM i := by
  show (bigSep Finset.univ fun i => chunkAny (px (px c)) xrM i) = _
  rw [px_px]

/-- Each device gives its landing buffers to the partners that write them and receives theirs. -/
theorem handshake_step : iprop(ctx m K ∗ (hand c ∗ (all fun i => chunkAny c yrM i) ∗ all fun i => chunkAny c xrM i) ∗ owing c (O₀ c))
    ⊢ wpc c (handshake F c) fun _ => iprop(((all fun i => chunkAny (py c) yrM i) ∗ (all fun i => chunkAny (px c) xrM i) ∗ atPos ER (barCell c) 1 ∅ 0)
      ∗ owing c (debt c 0 0)) := by
  have hl : ctx m K ⊢ MayWait (c : Thread nD τ) (.reg barS) () (debt c 0 0) := by
    unfold ctx; iintro ⟨-, -, H⟩; iapply (may_low c (.reg barS) le_rfl 0 0); iexact H
  unfold handshake hand owing
  simp only [semSignalWord, semWaitWord, Prog.bind_op, Prog.bind_ret, dev1 c, dev2 c]
  iintro ⟨#Hc, ⟨⟨HtY, HtX, Hcr, Hp⟩, Hyr, Hxr⟩, ⟨%W, HO⟩⟩
  unfold O₀
  iapply (Rounds.wp_signal 𝒱₀ ER (rd m) (c : Thread nD τ) none (dst := (py c : Thread nD τ)) (κ := K (py c, .inl ()))
      (d := false) (by rw [duties_bar]; exact Finset.mem_univ _) ((amount_bar m (py c) false).trans (by decide)) ()
      (debt c 0 0 + tallyAt (barCell (px c)) () 1) rfl) $$ [HO HtY Hyr]
  · isplitr; · iapply (ctx_inv m K (py c, .inl ())); iexact Hc
    isplitl [HO]; · iexact HO
    isplitl [HtY]; · iexact HtY
    isplitl [Hyr]; · rw [payload_bar, barPay_py]; iexact Hyr
    iapply (ctx_reached m K (py c, .inl ())); iexact Hc
  iintro HO
  iapply (Rounds.wp_signal 𝒱₀ ER (rd m) (c : Thread nD τ) none (dst := (px c : Thread nD τ)) (κ := K (px c, .inl ()))
      (d := true) (by rw [duties_bar]; exact Finset.mem_univ _) ((amount_bar m (px c) true).trans (by decide)) ()
      (debt c 0 0) rfl) $$ [HO HtX Hxr]
  · isplitr; · iapply (ctx_inv m K (px c, .inl ())); iexact Hc
    isplitl [HO]; · iexact HO
    isplitl [HtX]; · iexact HtX
    isplitl [Hxr]; · rw [payload_bar, barPay_px]; iexact Hxr
    iapply (ctx_reached m K (px c, .inl ())); iexact Hc
  iintro HO
  iapply (Rounds.wp_wait_rest_token 𝒱₀ ER (rd m) (c : Thread nD τ) none (κ := K (c, .inl ()))
      (wpE_semWait_eq 𝒱₀ (c : Thread nD τ) none Set.univ) (Set.mem_univ _) () (O := debt c 0 0) (W := W) (R := 0) (m := 0) (T := ∅)
      (by rw [expect_bar]; decide)) $$ [Hcr HO Hp]
  · isplitr; · iapply (ctx_inv m K (c, .inl ())); iexact Hc
    isplitl [Hcr]; · iexact Hcr
    isplitl [HO]; · iexact HO
    isplitr; · iapply hl; iexact Hc
    iexact Hp
  iintro ⟨HO, Hp, -, Hpay⟩
  ihave Hpay := (Entails.of_eq (rest_bar m c)) $$ Hpay
  icases Hpay with ⟨Hyr, Hxr⟩
  rw [wp_ret]; imodintro
  isplitr [HO]
  · isplitl [Hyr]; · iexact Hyr
    isplitl [Hxr]; · iexact Hxr
    iexact Hp
  iexists _; iexact HO

/-! ## The body -/

/-- What device `c` starts with for chunk `i`: its rows of the argument, its chunk of every buffer, its two row
    ranges of the result, the tokens of the transfers it starts, the rights to its waits, and the credit of the
    two transfers that others start. -/
def chunkIn (i : Fin 8) : sProp 𝕄 :=
  iprop(ownsTc c (mineM argM c i) fullShare (xB m c i) ∗ chunkAny c xM i ∗ chunkAny c sndM i ∗ chunkAny c yrM i ∗ chunkAny c sumM i ∗ chunkAny c xrM i
    ∗ (∃ Y, ownsTc c (mineM outM c i) fullShare Y) ∗ (∃ Y, ownsTc c (otherM outM c i) fullShare Y)
    ∗ tok c 0 i ∗ tok c 1 i ∗ tok (py c) 2 i ∗ tok c 3 i ∗ tok (px c) 4 i ∗ tok c 5 i ∗ tok c 6 i
    ∗ pos c 0 i ∗ pos c 1 i ∗ pos c 2 i ∗ pos c 3 i ∗ pos c 4 i ∗ pos c 5 i ∗ pos c 6 i
    ∗ crd c 2 i ∗ crd c 4 i)

/-- What it ends with for chunk `i`. -/
def chunkOut (i : Fin 8) : sProp 𝕄 :=
  iprop(ownsTc c (mineM argM c i) fullShare (xB m c i) ∗ ownsTc c (chunkM xM i) fullShare (xB m c i)
    ∗ ownsTc c (chunkM yrM i) fullShare (sB m (py c) i) ∗ posd c 0 i ∗ posd c 2 i ∗ posd c 4 i ∗ drainB m c i)

/-- The body takes the one to the other and pays all it owes. -/
theorem body_run : iprop(ctx m K ∗ all (chunkIn m c) ∗ hand c ∗ owing c (O₀ c))
    ⊢ wpc c sweeps fun _ => iprop(all (chunkOut m c) ∗ atPos ER (barCell c) 1 ∅ 0 ∗ owing c 0) := by
  unfold sweeps chunkIn all
  simp only [bigSep_sep']
  simp only [Prog.lift, Prog.bind_op, Prog.bind_ret, wpc, wp_deviceId]
  iintro ⟨#Hc, ⟨HA, HX, HS, HY, HM, HR, HOm, HOo, T0, T1, T2, T3, T4, T5, T6, P0, P1, P2, P3, P4, P5, P6, C2, C4⟩, Hh, HO⟩
  -- the fetches
  iapply (wp_sweep c (ctx m K) (A := fetchA m c) (B := fetchB c) (S := fun _ => owing c (O₀ c)) (fun i => fetch_step m K c i _)) $$ [HA HX T0 HO]
  · isplitr; · iexact Hc
    isplitr [HO]; swap; · iexact HO
    unfold fetchA; simp only [bigSep_sep']
    isplitl [HA]; · iexact HA
    isplitl [HX]; · iexact HX
    iexact T0
  iintro ⟨C0, HO⟩
  -- the handshake
  iapply (wp_then c (handshake_step m K c)) $$ [Hh HY HR HO]
  · isplitr; · iexact Hc
    isplitr [HO]; swap; · iexact HO
    isplitl [Hh]; · iexact Hh
    isplitl [HY]; · iexact HY
    iexact HR
  iintro ⟨⟨HY, HR, Hpb⟩, HO⟩
  -- the sends
  iapply (wp_sweep c (ctx m K) (A := sendA c) (B := sendB m c) (S := fun n => owing c (debt c n 0)) (send_step m K c)) $$ [C0 P0 HS HY T1 T2 HO]
  · isplitr; · iexact Hc
    isplitr [HO]; swap; · iexact HO
    unfold sendA; simp only [bigSep_sep']
    isplitl [C0]; · iexact C0
    isplitl [P0]; · iexact P0
    isplitl [HS]; · iexact HS
    isplitl [HY]; · iexact HY
    isplitl [T1]; · iexact T1
    iexact T2
  unfold sendB; simp only [bigSep_sep']
  iintro ⟨⟨HX, HA, P0, C1⟩, HO⟩
  -- the reductions
  iapply (wp_sweep c (ctx m K) (A := reduceA m c) (B := reduceB m c) (S := fun n => owing c (debt c 8 n)) (reduce_step m K c))
    $$ [C2 P2 HX HM HR T3 T4 T5 HOm HO]
  · isplitr; · iexact Hc
    isplitr [HO]; swap; · iexact HO
    unfold reduceA; simp only [bigSep_sep']
    isplitl [C2]; · iexact C2
    isplitl [P2]; · iexact P2
    isplitl [HX]; · iexact HX
    isplitl [HM]; · iexact HM
    isplitl [HR]; · iexact HR
    isplitl [T3]; · iexact T3
    isplitl [T4]; · iexact T4
    isplitl [T5]; · iexact T5
    iexact HOm
  unfold reduceB; simp only [bigSep_sep']
  iintro ⟨⟨HX, HY, P2, C3, C5⟩, HO⟩
  -- the collections
  iapply (wp_sweep c (ctx m K) (A := collectA c) (B := collectB c) (S := fun _ => owing c (debt c 8 8)) (collect_step m K c)) $$ [C4 P4 T6 HOo HO]
  · isplitr; · iexact Hc
    isplitr [HO]; swap; · iexact HO
    unfold collectA; simp only [bigSep_sep']
    isplitl [C4]; · iexact C4
    isplitl [P4]; · iexact P4
    isplitl [T6]; · iexact T6
    iexact HOo
  unfold collectB; simp only [bigSep_sep']
  iintro ⟨⟨P4, C6⟩, HO⟩
  -- the drains
  iapply (wp_sweep c (ctx m K) (A := drainA c) (B := drainB m c) (S := fun _ => owing c (debt c 8 8)) (drain_step m K c))
    $$ [C5 P5 C6 P6 C1 P1 C3 P3 HO]
  · isplitr; · iexact Hc
    isplitr [HO]; swap; · iexact HO
    unfold drainA; simp only [bigSep_sep']
    isplitl [C5 P5]; · isplitl [C5] <;> iassumption
    isplitl [C6 P6]; · isplitl [C6] <;> iassumption
    isplitl [C1 P1]; · isplitl [C1] <;> iassumption
    isplitl [C3] <;> iassumption
  iintro ⟨HD, HO⟩
  rw [wpc, Prog.pure_eq_ret, wp_ret]; imodintro
  isplitr [Hpb HO]
  · unfold chunkOut; simp only [bigSep_sep']
    isplitl [HA]; · iexact HA
    isplitl [HX]; · iexact HX
    isplitl [HY]; · iexact HY
    isplitl [P0]; · iexact P0
    isplitl [P2]; · iexact P2
    isplitl [P4]; · iexact P4
    iexact HD
  isplitl [Hpb]; · iexact Hpb
  rw [debt_done]; iexact HO

end Cert.TwoHop
-- ==== Proof.Glue.lean ====
/- Whole buffers as their chunks.

   The argument and the result are sixteen row ranges, eight of the device's own half and eight of the other; a
   staging or landing buffer is eight chunks. Each is taken apart before the body and put together after it. -/
module

public import proofs.«01_k».proof.Proof.Body

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

omit [FloatOps F] in
/-- A conjunction over the sixteen row ranges: the own half's eight and the other half's eight. -/
theorem bigSep_half (Φ : Bool × Fin 8 → sProp 𝕄) : bigSep Finset.univ Φ = iprop((all fun i => Φ (false, i)) ∗ all fun i => Φ (true, i)) := by
  rw [bigSep_univ_prod, bigSep_univ_eq_bigSepL [false, true] (by decide) (by decide), bigSepL_cons_cons, bigSepL_singleton]
  rfl

/-- A device's half of its argument that it does not read. -/
def restB (i : Fin 8) : S32x512.Idx → Elt F .f32 := (otherM argM c i).view.read (Elt F) (argAt m c)

/-- The argument is its own half's chunks and the other half's. -/
theorem arg_eq : (((c : Thread nD τ).loc main_arg0) ↦{fullShare} argAt m c : sProp 𝕄)
    = iprop((all fun i => ownsTc c (mineM argM c i) fullShare (xB m c i)) ∗ all fun i => ownsTc c (otherM argM c i) fullShare (restB m c i)) := by
  have h := pointsTo_rects (U := UU) (Ix := Unit) (Name := ℕ) (Lvl := ℕ) (c : Thread nD τ) argM fullShare (halfR c) (half_stride c) (half_disjoint c) (half_cover c) (argAt m c)
  rw [bigSep_half, show (argM : Memref sig .tc .hbm S512x512 .f32).view.set = Finset.univ from View.set_whole _] at h
  exact h

/-- Some contents, from particular ones. -/
theorem any_intro {sp : Space} {s : Shape} {e : EltTy} (b : Memref sig .tc sp s e) (X : s.Idx → Elt F e) :
    (ownsTc c b fullShare X : sProp 𝕄) ⊢ iprop(∃ Y, ownsTc c b fullShare Y) := by
  iintro H; iexists X; iexact H

/-- The result's two halves, as what they hold. -/
theorem out_eq (V : (main_v1 : Ref sig .tc).ty.Contents (Elt F)) : (((c : Thread nD τ).loc main_v1) ↦{fullShare} V : sProp 𝕄)
    = iprop((all fun i => ownsTc c (mineM outM c i) fullShare ((mineM outM c i).view.read (Elt F) V))
      ∗ all fun i => ownsTc c (otherM outM c i) fullShare ((otherM outM c i).view.read (Elt F) V)) := by
  have h := pointsTo_rects (U := UU) (Ix := Unit) (Name := ℕ) (Lvl := ℕ) (c : Thread nD τ) outM fullShare (halfR c) (half_stride c) (half_disjoint c) (half_cover c) V
  rw [bigSep_half, show (outM : Memref sig .tc .hbm S512x512 .bf16).view.set = Finset.univ from View.set_whole _] at h
  exact h

/-- The result's two halves, at some contents. -/
theorem out_split (V : (main_v1 : Ref sig .tc).ty.Contents (Elt F)) : (((c : Thread nD τ).loc main_v1) ↦{fullShare} V : sProp 𝕄)
    ⊢ iprop((all fun i => iprop(∃ Y, ownsTc c (mineM outM c i) fullShare Y)) ∗ all fun i => iprop(∃ Y, ownsTc c (otherM outM c i) fullShare Y)) := by
  rw [out_eq]
  iintro ⟨Ha, Hb⟩
  isplitl [Ha]
  · iapply (show (all fun i => ownsTc c (mineM outM c i) fullShare ((mineM outM c i).view.read (Elt F) V)) ⊢ _ from
      bigSep_mono fun i _ => any_intro c (mineM outM c i) _) $$ Ha
  · iapply (show (all fun i => ownsTc c (otherM outM c i) fullShare ((otherM outM c i).view.read (Elt F) V)) ⊢ _ from
      bigSep_mono fun i _ => any_intro c (otherM outM c i) _) $$ Hb

/-- The result put together from its chunks holds what it should. -/
theorem out_join : iprop((all fun i => ownsTc c (mineM outM c i) fullShare (tB m c i)) ∗ all fun i => ownsTc c (otherM outM c i) fullShare (tB m (px c) i))
    ⊢ (iprop(∃ f, ⌜Good m c f⌝ ∗ (((c : Thread nD τ).loc main_v1) ↦{fullShare} f)) : sProp 𝕄) := by
  have h := ownsSat_of_rects (U := UU) (Ix := Unit) (Name := ℕ) (Lvl := ℕ) (c : Thread nD τ) outM fullShare (halfR c) (half_stride c) (half_disjoint c) (half_cover c)
    (Ψ := fun t => match t with | (false, i) => fun X => X = tB m c i | (true, i) => fun X => X = tB m (px c) i)
  rw [bigSep_half] at h
  have h' : iprop((all fun i => ownsSat (c : Thread nD τ) (mineM outM c i) fullShare (fun X => X = tB m c i))
      ∗ all fun i => ownsSat (c : Thread nD τ) (otherM outM c i) fullShare (fun X => X = tB m (px c) i)) ⊢ (_ : sProp 𝕄) := h
  refine BIBase.Entails.trans ?_ (h'.trans ?_)
  · iintro ⟨Ha, Hb⟩
    isplitl [Ha]
    · iapply (show (all fun i => ownsTc c (mineM outM c i) fullShare (tB m c i)) ⊢ (all fun i => ownsSat (c : Thread nD τ) (mineM outM c i) fullShare (fun X => X = tB m c i) : sProp 𝕄) from
        bigSep_mono fun i _ => ownsSat_intro (c : Thread nD τ) (mineM outM c i) fullShare rfl) $$ Ha
    · iapply (show (all fun i => ownsTc c (otherM outM c i) fullShare (tB m (px c) i)) ⊢ (all fun i => ownsSat (c : Thread nD τ) (otherM outM c i) fullShare (fun X => X = tB m (px c) i) : sProp 𝕄) from
        bigSep_mono fun i _ => ownsSat_intro (c : Thread nD τ) (otherM outM c i) fullShare rfl) $$ Hb
  unfold ownsSat
  iintro ⟨%f, %hf, H⟩
  iexists f
  isplitr
  · ipureintro; exact fun i => ⟨hf (false, i), hf (true, i)⟩
  rw [show (outM : Memref sig .tc .hbm S512x512 .bf16).view.set = Finset.univ from View.set_whole _]
  iexact H

/-- A staging or landing buffer is its chunks. -/
theorem buf_chunks {e : EltTy} (b : Memref sig .tc .vmem S256x512 e) : iprop(∃ X, ownsTc c b fullShare X) ⊢ (all fun i => chunkAny (F := F) c b i : sProp 𝕄) := by
  iintro ⟨%X, H⟩
  have h1 : (all fun i => ownsTc c (chunkM b i) fullShare fun j => X ((chunkR i).emb j)) ⊢ (all fun i => chunkAny (F := F) c b i : sProp 𝕄) :=
    bigSep_mono fun i _ => any_intro c (chunkM b i) _
  iapply (BIBase.Entails.trans (owns_rects (c : Thread nD τ) b fullShare chunkR (fun _ _ => rfl) chunk_disjoint chunk_cover X) h1) $$ H
/-- The eight chunks of a scratch buffer are the buffer. -/
theorem chunks_buf {e : EltTy} (b : Memref sig .tc .vmem S256x512 e) : (all fun i => chunkAny (F := F) c b i : sProp 𝕄) ⊢ iprop(∃ X, ownsTc c b fullShare X) := by
  have h := ownsSat_of_rects (U := UU) (Ix := Unit) (Name := ℕ) (Lvl := ℕ) (Val := Elt F) (c : Thread nD τ) b fullShare chunkR (fun _ _ => rfl) chunk_disjoint chunk_cover
    (Ψ := fun _ _ => True)
  have h0 (i : Fin 8) : chunkAny (F := F) c b i ⊢ (ownsSat (c : Thread nD τ) (chunkM b i) fullShare (fun _ => True) : sProp 𝕄) :=
    (ownsSat_true (c : Thread nD τ) (chunkM b i) fullShare).2
  have h1 := ownsSat_any (U := UU) (Ix := Unit) (Name := ℕ) (Lvl := ℕ) (Val := Elt F) (c : Thread nD τ) b fullShare (Φ := fun _ => ∀ _ : Fin 8, True)
  exact BIBase.Entails.trans (bigSep_mono fun i _ => h0 i) (BIBase.Entails.trans h h1)

/-- A whole buffer at some contents. -/
def bufAny (b : Ref sig .tc) : sProp 𝕄 := iprop(∃ f : Buf (Elt F) ((c : Thread nD τ).loc b), ((c : Thread nD τ).loc b) ↦{fullShare} f)

omit [FloatOps F] in
/-- A scratch buffer at some contents is the view of all of it at some contents: the fetched rows, -/
theorem whole_xM : bufAny (F := F) c cc0_scratch0 = iprop(∃ X, ownsTc c xM fullShare X) := by
  unfold bufAny; simp only [ownsTc, owns_whole]; rfl
omit [FloatOps F] in
/-- the rounded rows to send, -/
theorem whole_sndM : bufAny (F := F) c cc0_scratch1 = iprop(∃ X, ownsTc c sndM fullShare X) := by
  unfold bufAny; simp only [ownsTc, owns_whole]; rfl
omit [FloatOps F] in
/-- the rows from the y-partner, -/
theorem whole_yrM : bufAny (F := F) c cc0_scratch2 = iprop(∃ X, ownsTc c yrM fullShare X) := by
  unfold bufAny; simp only [ownsTc, owns_whole]; rfl
omit [FloatOps F] in
/-- the sums, -/
theorem whole_sumM : bufAny (F := F) c cc0_scratch3 = iprop(∃ X, ownsTc c sumM fullShare X) := by
  unfold bufAny; simp only [ownsTc, owns_whole]; rfl
omit [FloatOps F] in
/-- and the sums from the x-partner. -/
theorem whole_xrM : bufAny (F := F) c cc0_scratch4 = iprop(∃ X, ownsTc c xrM fullShare X) := by
  unfold bufAny; simp only [ownsTc, owns_whole]; rfl

end Cert.TwoHop
-- ==== Proof.Ghost.lean ====
/- The launch's dealing: cells, tokens and credits.

   Every semaphore of every device becomes a cell of the schedule; each duty's token goes to the device that will
   pay it, a partner's landing cells' tokens to the partner; and what each device is owed at the launch is credited
   to it. -/
module

public import proofs.«01_k».proof.Proof.Glue
public import Idealize.ShloMosaic.Lib.Pipeline.CollectiveSegs

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- A conjunction over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- A resource for every cell of a device, cell kind by cell kind. -/
theorem bigSep_J (Φ : J → sProp 𝕄) : bigSep Finset.univ Φ
    = iprop(Φ (.inl ()) ∗ (all fun i => Φ (.inr (0, i))) ∗ (all fun i => Φ (.inr (1, i))) ∗ (all fun i => Φ (.inr (2, i))) ∗ (all fun i => Φ (.inr (3, i)))
      ∗ (all fun i => Φ (.inr (4, i))) ∗ (all fun i => Φ (.inr (5, i))) ∗ all fun i => Φ (.inr (6, i))) := by
  rw [bigSep_univ_sum, bigSep_univ_prod, bigSep_fin7, show (Finset.univ : Finset Unit) = {()} from rfl, bigSep_singleton]
  rfl

/-- Different devices' and different semaphores' cells are different. -/
theorem kc_injective : Function.Injective kc := by
  rintro ⟨c, j⟩ ⟨c', j'⟩ h
  rcases j with ⟨⟩ | ⟨k, i⟩ <;> rcases j' with ⟨⟩ | ⟨k', i'⟩
  · exact Prod.ext (bar_eq_iff.mp h) rfl
  · exact absurd h.symm (cell_ne_bar _ _ _ _)
  · exact absurd h (cell_ne_bar _ _ _ _)
  · obtain ⟨rfl, rfl, rfl⟩ := cell_eq_iff.mp h; rfl
/-- All the exchange's cells. -/
def cells : Finset (GSem nD τ sig) := Finset.univ.map ⟨kc, kc_injective⟩

/-- A device's duties: its barrier's two and one for every transfer cell. -/
abbrev D : Type := Bool ⊕ (Fin 7 × Fin 8)
/-- The token of a duty: the barrier signal a device receives, or the one transfer on a cell. -/
abbrev tokOf (cj : Dev nD × D) : GSem nD τ sig × ℕ × Bool := match cj.2 with
  | .inl b => (barCell cj.1, 0, b) | .inr ki => (cell cj.1 ki.1 ki.2, 0, false)
/-- Different duties have different tokens. -/
theorem tokOf_injective : Function.Injective tokOf := by
  rintro ⟨c, j⟩ ⟨c', j'⟩ h
  rcases j with b | ⟨k, i⟩ <;> rcases j' with b' | ⟨k', i'⟩
  · exact Prod.ext (bar_eq_iff.mp (congrArg Prod.fst h)) (congrArg Sum.inl (congrArg (fun x => x.2.2) h))
  · exact absurd (congrArg Prod.fst h).symm (cell_ne_bar _ _ _ _)
  · exact absurd (congrArg Prod.fst h) (cell_ne_bar _ _ _ _)
  · obtain ⟨rfl, rfl, rfl⟩ := cell_eq_iff.mp (congrArg Prod.fst h); rfl
/-- All the exchange's tokens. -/
def tokens : Finset (GSem nD τ sig × ℕ × Bool) := Finset.univ.map ⟨tokOf, tokOf_injective⟩

/-- The ghost state at the launch. -/
def u₀ : UU := (initOf (Pipeline.cells cfgs Gen.cellOf_inj) (Pipeline.launchToks cfgs Gen.cellOf_inj), initOf cells tokens)

/-- The tokens of a device's own cells. -/
def ownToks (c : Dev nD) : sProp 𝕄 :=
  iprop((dutyTok ER (barCell c) 0 false ∗ dutyTok ER (barCell c) 0 true)
    ∗ (all fun i => tok c 0 i) ∗ (all fun i => tok c 1 i) ∗ (all fun i => tok c 2 i) ∗ (all fun i => tok c 3 i)
    ∗ (all fun i => tok c 4 i) ∗ (all fun i => tok c 5 i) ∗ all fun i => tok c 6 i)

/-- The tokens of the duties a device pays. -/
def payToks (c : Dev nD) : sProp 𝕄 :=
  iprop((dutyTok ER (barCell (py c)) 0 false ∗ dutyTok ER (barCell (px c)) 0 true)
    ∗ (all fun i => tok c 0 i) ∗ (all fun i => tok c 1 i) ∗ (all fun i => tok (py c) 2 i) ∗ (all fun i => tok c 3 i)
    ∗ (all fun i => tok (px c) 4 i) ∗ (all fun i => tok c 5 i) ∗ all fun i => tok c 6 i)

omit [FloatOps F] in
/-- A conjunction over a device's duties: the two barrier signals and seven times eight transfers. -/
theorem bigSep_D (Φ : D → sProp 𝕄) : bigSep Finset.univ Φ
    = iprop((Φ (.inl false) ∗ Φ (.inl true)) ∗ (all fun i => Φ (.inr (0, i))) ∗ (all fun i => Φ (.inr (1, i))) ∗ (all fun i => Φ (.inr (2, i)))
      ∗ (all fun i => Φ (.inr (3, i))) ∗ (all fun i => Φ (.inr (4, i))) ∗ (all fun i => Φ (.inr (5, i))) ∗ all fun i => Φ (.inr (6, i))) := by
  rw [bigSep_univ_sum, bigSep_univ_prod, bigSep_fin7, bigSep_univ_eq_bigSepL [false, true] (by decide) (by decide), bigSepL_cons_cons, bigSepL_singleton]
  rfl

omit [FloatOps F] in
/-- Every duty's token goes to the device that pays it. -/
theorem toks_around : (bigSep Finset.univ fun c : Dev nD => (ownToks c : sProp 𝕄)) ⊢ bigSep Finset.univ fun c : Dev nD => payToks c := by
  unfold ownToks payToks
  simp only [bigSep_sep']
  rw [bigSep_univ_equiv pyE (fun c : Dev nD => (dutyTok ER (barCell c) 0 false : sProp 𝕄)),
    bigSep_univ_equiv pxE (fun c : Dev nD => (dutyTok ER (barCell c) 0 true : sProp 𝕄)),
    bigSep_univ_equiv pyE (fun c : Dev nD => (all fun i => tok c 2 i : sProp 𝕄)),
    bigSep_univ_equiv pxE (fun c : Dev nD => (all fun i => tok c 4 i : sProp 𝕄))]
  exact BIBase.Entails.rfl

/-- What the launch element deals a device. -/
def G (c : Dev nD) : sProp 𝕄 :=
  iprop((bigSep Finset.univ fun j : J => roundState ER (rd m) (kc (c, j)) 0)
    ∗ (bigSep Finset.univ fun j : J => iprop(atPos ER (kc (c, j)) 0 ∅ 0 ∗ reached ER (kc (c, j)) 0)) ∗ ownToks c)

/-- The exchange's ghost state at the launch is every cell's state, every reader's place and every duty's token, device by device. -/
theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun j : J => Φ (kc (c, j)) := by
    unfold cells; rw [bigSep_map, bigSep_univ_prod]; rfl
  have hT : bigSep tokens (fun x => (dutyTok ER x.1 x.2.1 x.2.2 : sProp 𝕄)) = bigSep Finset.univ fun c : Dev nD => ownToks c := by
    unfold tokens; rw [bigSep_map, bigSep_univ_prod]
    exact bigSep_congr fun c _ => by unfold ownToks; rw [bigSep_D]; rfl
  iintro HX
  imod (Rounds.fund ER (rd m) cells tokens) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocation -/

/-- The kernel's own semaphores are its transfers'. -/
abbrev osem (ki : Fin 7 × Fin 8) : SemLoc sig := .dma (dq ki)
/-- The seven arrays' semaphores are scoped, different, and none of them a window's. -/
theorem ownSemFacts : Pipeline.OwnSemFacts cfg0.spec osem where
  isScoped ki := by revert ki; decide
  inj a b h := dq.injective (SemLoc.dma.inj h)
  disj _ w := w.elim0

omit [FloatOps F] in
/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's counters at zero: its transfers' and its barrier's. -/
theorem sems0_eq (c : Dev nD) : (bigSep Finset.univ fun j : J => semVal (kc (c, j)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]
  rfl

/-- One device's counters at zero and its ghost state become its cells' invariants, its places and its tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kc (c, j))))
          ∗ (bigSep Finset.univ fun j => iprop(atPos ER (kc (c, j)) 0 ∅ 0 ∗ reached ER (kc (c, j)) 0)) ∗ ownToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun j : J => semVal (kc (c, j)) 0) ∗ bigSep Finset.univ fun j : J => roundState ER (rd m) (kc (c, j)) 0)
      ⊢ (|={Set.univ}=> bigSep Finset.univ fun j => iprop(∃ κ : ℕ, cellInv ER (rd m) κ (kc (c, j))) : sProp 𝕄) from by
        rw [← bigSep_sep']
        exact (bigSep_mono fun j _ => (Rounds.body_intro ER (rd m) (kc (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The shared records: every cell's invariant and that it has reached round 0. -/
def records (K : Dev nD × J → ℕ) : sProp 𝕄 :=
  iprop((bigSep Finset.univ fun cj => cellInv ER (rd m) (K cj) (kc cj)) ∗ bigSep Finset.univ fun cj => reached ER (kc cj) 0)
/-- The records may be kept and handed out at once. -/
instance records_persistent (K : Dev nD × J → ℕ) : BI.Persistent (records m K) := by unfold records; infer_instance

/-- A device's own share: the rights to its waits and the tokens it pays with. -/
def linear (c : Dev nD) : sProp 𝕄 := iprop((bigSep Finset.univ fun j : J => atPos ER (kc (c, j)) 0 ∅ 0) ∗ payToks c)

/-- What a device has after the global step. -/
def G' (c : Dev nD) : sProp 𝕄 := iprop(∃ K, records m K ∗ linear c)

/-- Every device takes the shared records along with its own share. -/
theorem deal (K : Dev nD × J → ℕ) : iprop(records m K ∗ bigSep Finset.univ fun c : Dev nD => linear c) ⊢ bigSep Finset.univ (G' m) := by
  have hg (c : Dev nD) : iprop(records m K ∗ linear c) ⊢ G' m c := by
    unfold G'; iintro H; iexists K; iexact H
  have hall : iprop((bigSep Finset.univ fun _ : Dev nD => records m K) ∗ bigSep Finset.univ fun c : Dev nD => linear c) ⊢ bigSep Finset.univ (G' m) := by
    rw [← bigSep_sep']; exact bigSep_mono fun c _ => hg c
  exact BIBase.Entails.trans (sep_mono_left (BI.bigSep_of_persistent Finset.univ (records m K))) hall

/-- All devices' invariants become common records, and each token goes to the device that pays it. -/
theorem regroup :
    (bigSep Finset.univ fun c : Dev nD => iprop((bigSep Finset.univ fun j => iprop(∃ κ : ℕ, cellInv ER (rd m) κ (kc (c, j))))
          ∗ (bigSep Finset.univ fun j => iprop(atPos ER (kc (c, j)) 0 ∅ 0 ∗ reached ER (kc (c, j)) 0)) ∗ ownToks c) : sProp 𝕄)
      ⊢ bigSep Finset.univ (G' m) := by
  rw [bigSep_sep', bigSep_sep', ← bigSep_univ_prod (fun cj : Dev nD × J => iprop(∃ κ : ℕ, cellInv ER (rd m) κ (kc cj))),
    bigSep_congr (s := Finset.univ) (fun (c : Dev nD) _ => bigSep_sep' Finset.univ (fun j : J => (atPos ER (kc (c, j)) 0 ∅ 0 : sProp 𝕄)) (fun j => reached ER (kc (c, j)) 0)),
    bigSep_sep', ← bigSep_univ_prod (fun cj : Dev nD × J => (reached ER (kc cj) 0 : sProp 𝕄))]
  iintro ⟨HI, ⟨Hat, #HR⟩, Htok⟩
  ihave HK := (BI.bigSep_exists_pi Finset.univ (fun (cj : Dev nD × J) (κ : ℕ) => (cellInv ER (rd m) κ (kc cj) : sProp 𝕄))) $$ HI
  icases HK with ⟨%K, #HI⟩
  ihave Htk := (toks_around (F := F)) $$ Htok
  iapply (deal m K)
  isplitr
  · unfold records; isplitl; · iexact HI
    iexact HR
  · iapply (Entails.of_eq (bigSep_sep' Finset.univ (fun c : Dev nD => bigSep Finset.univ fun j : J => (atPos ER (kc (c, j)) 0 ∅ 0 : sProp 𝕄)) payToks).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is owed at the launch -/

/-- The landings a device owes are none of a barrier cell's. -/
theorem debt_bar (d c : Dev nD) : debt d 0 0 (barCell c) () = 0 := by
  rw [debt_apply]
  simp only [tallyAt_apply, (cell_ne_bar _ _ _ _).symm, false_and, if_false, Finset.sum_const_zero, Nat.add_zero]
/-- At the launch a first-hop landing on `c` is owed by its y-partner alone, -/
theorem debt_first (d c : Dev nD) (i : Fin 8) : debt d 0 0 (cell c 2 i) () = if d = py c then credit 2 else 0 := by
  rw [debt_apply]
  simp only [tallyAt_apply, cell_eq_iff, Nat.zero_le, Finset.filter_true, show ((2 : Fin 7) = 4) = False from by decide, and_true, true_and, false_and, and_false, if_false,
    Finset.sum_const_zero, Nat.zero_add]
  by_cases h : d = py c
  · subst h
    simp only [py_py, true_and, Finset.sum_ite_eq, Finset.mem_univ, if_true]
  · have h' : ¬ c = py d := fun e => h (by rw [e, py_py])
    simp only [h, h', false_and, if_false, Finset.sum_const_zero]
/-- a second-hop landing by its x-partner alone, -/
theorem debt_second (d c : Dev nD) (i : Fin 8) : debt d 0 0 (cell c 4 i) () = if d = px c then credit 4 else 0 := by
  rw [debt_apply]
  simp only [tallyAt_apply, cell_eq_iff, Nat.zero_le, Finset.filter_true, show ((4 : Fin 7) = 2) = False from by decide, and_true, true_and, false_and, and_false, if_false,
    Finset.sum_const_zero, Nat.add_zero]
  by_cases h : d = px c
  · subst h
    simp only [px_px, true_and, Finset.sum_ite_eq, Finset.mem_univ, if_true]
  · have h' : ¬ c = px d := fun e => h (by rw [e, px_px])
    simp only [h, h', false_and, if_false, Finset.sum_const_zero]

/-- a barrier signal by each of the two, -/
theorem owed_bar (d c : Dev nD) : O₀ d (barCell c) () = (if d = px c then 1 else 0) + (if d = py c then 1 else 0) := by
  unfold O₀
  rw [Pi.add_apply, Finsupp.add_apply, Pi.add_apply, Finsupp.add_apply, debt_bar, Nat.zero_add, tallyAt_apply, tallyAt_apply]
  congr 1
  · by_cases h : d = px c
    · subst h; rw [px_px, if_pos ⟨rfl, rfl⟩, if_pos rfl]
    · rw [if_neg (fun ⟨h1, _⟩ => h (by rw [bar_eq_iff.mp h1, px_px])), if_neg h]
  · by_cases h : d = py c
    · subst h; rw [py_py, if_pos ⟨rfl, rfl⟩, if_pos rfl]
    · rw [if_neg (fun ⟨h1, _⟩ => h (by rw [bar_eq_iff.mp h1, py_py])), if_neg h]
/-- and nothing else. -/
theorem owed_cell (d c : Dev nD) (k : Fin 7) (i : Fin 8) : O₀ d (cell c k i) () = debt d 0 0 (cell c k i) () := by
  unfold O₀
  rw [Pi.add_apply, Finsupp.add_apply, Pi.add_apply, Finsupp.add_apply, tallyAt_ne_cell (cell_ne_bar _ _ _ _), tallyAt_ne_cell (cell_ne_bar _ _ _ _)]
  rfl

/-- What a device is owed at the launch: two barrier signals, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (px c) fun _ => 1, Finset.sum_ite_eq' Finset.univ (py c) fun _ => 1, if_pos (Finset.mem_univ _), if_pos (Finset.mem_univ _)]
/-- the bytes of eight first-hop landings, -/
theorem launch_first (c : Dev nD) (i : Fin 8) :
    tallyOn (cell c 2 i) (launchCredit (Pipeline.owing O₀) 0 (cell c 2 i)) = (tallyAt (cell c 2 i) () (credit 2) : CellTallies nD τ sig Unit) := by
  unfold tallyAt; refine congrArg _ (Finsupp.ext fun u => ?_); cases u
  rw [Pipeline.launchCredit_owing, Finsupp.single_eq_same, Finset.sum_congr rfl fun d _ => (owed_cell d c 2 i).trans (debt_first d c i),
    Finset.sum_ite_eq' Finset.univ (py c) fun _ => credit 2, if_pos (Finset.mem_univ _)]
/-- and those of eight second-hop landings. -/
theorem launch_second (c : Dev nD) (i : Fin 8) :
    tallyOn (cell c 4 i) (launchCredit (Pipeline.owing O₀) 0 (cell c 4 i)) = (tallyAt (cell c 4 i) () (credit 4) : CellTallies nD τ sig Unit) := by
  unfold tallyAt; refine congrArg _ (Finsupp.ext fun u => ?_); cases u
  rw [Pipeline.launchCredit_owing, Finsupp.single_eq_same, Finset.sum_congr rfl fun d _ => (owed_cell d c 4 i).trans (debt_second d c i),
    Finset.sum_ite_eq' Finset.univ (px c) fun _ => credit 4, if_pos (Finset.mem_univ _)]

/-- The semaphores a device is owed on: its barrier's and its landing cells'. -/
abbrev owedAt : Unit ⊕ (Bool × Fin 8) → SemLoc sig
  | .inl _ => .reg barS | .inr (false, i) => .dma (dq (2, i)) | .inr (true, i) => .dma (dq (4, i))
/-- These semaphores are different. -/
theorem owedAt_injective : Function.Injective owedAt := by
  have h (k k' : Fin 7) (i i' : Fin 8) (e : (SemLoc.dma (dq (k, i)) : SemLoc sig) = .dma (dq (k', i'))) : k = k' ∧ i = i' :=
    Prod.mk.inj (dq.injective (SemLoc.dma.inj e))
  rintro (⟨⟩ | ⟨_ | _, i⟩) (⟨⟩ | ⟨_ | _, i'⟩) e
  · rfl
  · cases e
  · cases e
  · cases e
  · rw [(h _ _ _ _ e).2]
  · exact absurd (h _ _ _ _ e).1 (by decide)
  · cases e
  · exact absurd (h _ _ _ _ e).1 (by decide)
  · rw [(h _ _ _ _ e).2]

/-- A device's credits at the launch: those for its barrier's two signals and its sixteen landings. -/
theorem creds (c : Dev nD) : (Pipeline.launchCred O₀ c : sProp 𝕄)
    ⊢ iprop(cred (tallyAt (barCell c) () 2) ∗ (all fun i => crd c 2 i) ∗ all fun i => crd c 4 i) := by
  unfold Pipeline.launchCred
  refine BIBase.Entails.trans (bigSep_subset (Finset.subset_univ (Finset.univ.map ⟨owedAt, owedAt_injective⟩))) (Entails.of_eq ?_)
  rw [bigSep_map, bigSep_univ_sum, bigSep_half, show (Finset.univ : Finset Unit) = {()} from rfl, bigSep_singleton, ← launch_bar]
  have h1 : (all fun i => crd (F := F) c 2 i) = all fun i => cred (tallyOn (cell c 2 i) (launchCredit (Pipeline.owing O₀) 0 (cell c 2 i))) :=
    bigSep_congr fun i _ => by rw [launch_first]
  have h2 : (all fun i => crd (F := F) c 4 i) = all fun i => cred (tallyOn (cell c 4 i) (launchCredit (Pipeline.owing O₀) 0 (cell c 4 i))) :=
    bigSep_congr fun i _ => by rw [launch_second]
  rw [h1, h2]
  rfl

end Cert.TwoHop
-- ==== Proof.Device.lean ====
/- A device's whole run: from what the launch deals it to its result.

   What the launch deals is sorted chunk by chunk; the body runs; every cell is closed, its counter at zero; and the
   buffers are put together again. -/
module

public import proofs.«01_k».proof.Proof.Ghost

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The five scoped buffers, at some contents. -/
def bufs (c : Dev nD) : sProp 𝕄 :=
  iprop(bufAny c cc0_scratch0 ∗ bufAny c cc0_scratch1 ∗ bufAny c cc0_scratch2 ∗ bufAny c cc0_scratch3 ∗ bufAny c cc0_scratch4)

/-- What a device is dealt: the shared records, its share, its credits and its two arrays. -/
def start (c : Dev nD) : sProp 𝕄 :=
  iprop((∃ K, ctx m K) ∗ linear c ∗ (cred (tallyAt (barCell c) () 2) ∗ (all fun i => crd c 2 i) ∗ all fun i => crd c 4 i)
    ∗ (((c : Thread nD τ).loc main_arg0) ↦{fullShare} argAt m c) ∗ (((c : Thread nD τ).loc main_v1) ↦{fullShare} m ((c : Thread nD τ).loc main_v1)))

/-- What a device has at the end: its counters at zero, its argument as it was and the result it should have. -/
def finish (c : Dev nD) : sProp 𝕄 :=
  iprop((bigSep Finset.univ fun j : J => semVal (kc (c, j)) 0) ∗ (((c : Thread nD τ).loc main_arg0) ↦{fullShare} argAt m c)
    ∗ ∃ f, ⌜Good m c f⌝ ∗ (((c : Thread nD τ).loc main_v1) ↦{fullShare} f))

/-- What a device is dealt is what its chunks and its handshake start with. -/
theorem chunks_in (c : Dev nD) : iprop(linear c ∗ (cred (tallyAt (barCell c) () 2) ∗ (all fun i => crd c 2 i) ∗ all fun i => crd c 4 i)
      ∗ (((c : Thread nD τ).loc main_arg0) ↦{fullShare} argAt m c) ∗ (((c : Thread nD τ).loc main_v1) ↦{fullShare} m ((c : Thread nD τ).loc main_v1)) ∗ bufs c)
    ⊢ iprop(all (chunkIn m c) ∗ hand c ∗ all fun i => ownsTc c (otherM argM c i) fullShare (restB m c i)) := by
  unfold linear payToks bufs hand
  rw [bigSep_J, whole_xM, whole_sndM, whole_yrM, whole_sumM, whole_xrM]
  iintro ⟨⟨⟨Pb, P0, P1, P2, P3, P4, P5, P6⟩, ⟨Ty, Tx⟩, T0, T1, T2, T3, T4, T5, T6⟩, ⟨Cb, C2, C4⟩, HA, HV, HX, HS, HY, HM, HR⟩
  ihave HA := (Entails.of_eq (arg_eq m c)) $$ HA
  icases HA with ⟨HA, HrA⟩
  ihave HV := (out_split c (m ((c : Thread nD τ).loc main_v1))) $$ HV
  icases HV with ⟨HOm, HOo⟩
  ihave HX := (buf_chunks c xM) $$ HX
  ihave HS := (buf_chunks c sndM) $$ HS
  ihave HY := (buf_chunks c yrM) $$ HY
  ihave HM := (buf_chunks c sumM) $$ HM
  ihave HR := (buf_chunks c xrM) $$ HR
  isplitr [HrA Ty Tx Cb Pb]
  · unfold chunkIn all; simp only [bigSep_sep']
    isplitl [HA]; · iexact HA
    isplitl [HX]; · iexact HX
    isplitl [HS]; · iexact HS
    isplitl [HY]; · iexact HY
    isplitl [HM]; · iexact HM
    isplitl [HR]; · iexact HR
    isplitl [HOm]; · iexact HOm
    isplitl [HOo]; · iexact HOo
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [C2]; · iexact C2
    iexact C4
  isplitr [HrA]
  · isplitl [Ty]; · iexact Ty
    isplitl [Tx]; · iexact Tx
    isplitl [Cb]; · iexact Cb
    iexact Pb
  iexact HrA

/-- Once every wait is done a device's cells close, their counters at zero. -/
theorem close_cells (K : Dev nD × J → ℕ) (c : Dev nD) : iprop(ctx m K ∗ bigSep Finset.univ fun j : J => atPos ER (kc (c, j)) 1 ∅ 0)
    ⊢ |={Set.univ}=> bigSep Finset.univ fun j : J => semVal (kc (c, j)) 0 := by
  have h (j : J) : iprop(ctx m K ∗ atPos ER (kc (c, j)) 1 ∅ 0) ⊢ |={Set.univ}=> semVal (kc (c, j)) 0 := by
    iintro ⟨#Hc, Hp⟩
    iapply (Rounds.cell_close ER (rd m) (Set.mem_univ (K (c, j))) (fun h => h) (R := 0 + 1) (duties_later m (kc (c, j))))
    isplitr; · iapply (ctx_inv m K (c, j)); iexact Hc
    iexact Hp
  have hall : iprop((bigSep Finset.univ fun _ : J => ctx m K) ∗ bigSep Finset.univ fun j : J => atPos ER (kc (c, j)) 1 ∅ 0)
      ⊢ bigSep Finset.univ fun j : J => iprop(|={Set.univ}=> semVal (kc (c, j)) 0) := by
    rw [← bigSep_sep']; exact bigSep_mono fun j _ => h j
  exact BIBase.Entails.trans (sep_mono_left (BI.bigSep_of_persistent Finset.univ (ctx m K))) (BIBase.Entails.trans hall (bigSep_fupd _ _))

/-- Chunks at particular contents are chunks at some contents. -/
theorem chunks_any {e : EltTy} (c : Dev nD) (b : Memref sig .tc .vmem S256x512 e) (X : Fin 8 → S32x512.Idx → Elt F e) :
    (all fun i => ownsTc c (chunkM b i) fullShare (X i)) ⊢ (iprop(∃ Y, ownsTc c b fullShare Y) : sProp 𝕄) :=
  BIBase.Entails.trans (show _ ⊢ (all fun i => chunkAny (F := F) c b i : sProp 𝕄) from bigSep_mono fun i _ => any_intro c (chunkM b i) _) (chunks_buf c b)

/-- The two half shares of the sums are the whole. -/
theorem sum_whole (c : Dev nD) : iprop((all fun i => ownsTc c (chunkM sumM i) fullShare.left (tB m c i)) ∗ all fun i => ownsTc c (chunkM sumM i) fullShare.right (tB m c i))
    ⊢ (all fun i => ownsTc c (chunkM sumM i) fullShare (tB m c i) : sProp 𝕄) := by
  rw [← bigSep_sep']
  exact bigSep_mono fun i _ => (owns_halves (c : Thread nD τ) (chunkM sumM i) fullShare (tB m c i)).2

/-- What its chunks end with is what a device should have. -/
theorem chunks_out (K : Dev nD × J → ℕ) (c : Dev nD) :
    iprop(ctx m K ∗ all (chunkOut m c) ∗ atPos ER (barCell c) 1 ∅ 0 ∗ all fun i => ownsTc c (otherM argM c i) fullShare (restB m c i))
    ⊢ |={Set.univ}=> iprop(finish m c ∗ bufs c) := by
  unfold chunkOut drainB all
  simp only [bigSep_sep']
  unfold dmaPay
  simp only [bigSep_sep']
  iintro ⟨#Hc, ⟨HA, HX, HY, P0, P2, P4, ⟨P5, HOm, HMr⟩, ⟨P6, HOo, HR⟩, ⟨P1, HS⟩, P3, HMl⟩, Pb, HrA⟩
  imod (close_cells m K c) $$ [P0 P1 P2 P3 P4 P5 P6 Pb] with HZ
  · isplitr; · iexact Hc
    rw [bigSep_J]
    isplitl [Pb]; · iexact Pb
    isplitl [P0]; · iexact P0
    isplitl [P1]; · iexact P1
    isplitl [P2]; · iexact P2
    isplitl [P3]; · iexact P3
    isplitl [P4]; · iexact P4
    isplitl [P5]; · iexact P5
    iexact P6
  imodintro
  unfold finish bufs
  rw [whole_xM, whole_sndM, whole_yrM, whole_sumM, whole_xrM]
  isplitl [HZ HA HrA HOm HOo]
  · isplitl [HZ]; · iexact HZ
    isplitl [HA HrA]
    · iapply (Entails.of_eq (arg_eq m c).symm)
      isplitl [HA] <;> iassumption
    iapply (out_join m c)
    isplitl [HOm] <;> iassumption
  isplitl [HX]; · iapply (chunks_any c xM (xB m c)); iexact HX
  isplitl [HS]; · iapply (chunks_any c sndM (sB m c)); iexact HS
  isplitl [HY]; · iapply (chunks_any c yrM (sB m (py c))); iexact HY
  isplitl [HMl HMr]
  · iapply (chunks_any c sumM (tB m c))
    iapply (sum_whole m c)
    isplitl [HMl] <;> iassumption
  iapply (chunks_any c xrM (tB m (px c))); iexact HR

/-- A device's body takes what it is dealt to what it should have, owing nothing more. -/
theorem device_run (c : Dev nD) : iprop(start m c ∗ bufs c ∗ owing c (O₀ c)) ⊢ wpc c sweeps fun _ => iprop((finish m c ∗ bufs c) ∗ owing c 0) := by
  unfold start
  iintro ⟨⟨⟨%K, #Hc⟩, Hl, Hcr, HA, HV⟩, Hb, HO⟩
  ihave H := (chunks_in m c) $$ [Hl Hcr HA HV Hb]
  · isplitl [Hl]; · iexact Hl
    isplitl [Hcr]; · iexact Hcr
    isplitl [HA]; · iexact HA
    isplitl [HV]; · iexact HV
    iexact Hb
  icases H with ⟨Hin, Hh, HrA⟩
  iapply (wp_fupd frame _ _ _)
  iapply (wp_wand_r frame _ _)
  isplitl [Hin Hh HO]
  · iapply (body_run m K c)
    isplitr; · iexact Hc
    isplitl [Hin]; · iexact Hin
    isplitl [Hh]; · iexact Hh
    iexact HO
  iintro %_ ⟨Hout, Hp, HO⟩
  imod (chunks_out m K c) $$ [Hout Hp HrA] with H
  · isplitr; · iexact Hc
    isplitl [Hout]; · iexact Hout
    isplitl [Hp]; · iexact Hp
    iexact HrA
  imodintro
  isplitl [H]; · iexact H
  iexact HO

end Cert.TwoHop
-- ==== Proof.Launch.lean ====
/- The launch: every device runs its body.

   From any memory and any float values, every fair run ends, every device's argument as it was, its result as it
   should be, and every counter at zero. -/
module

public import proofs.«01_k».proof.Proof.Device

@[expose] public section

noncomputable section

namespace Cert.TwoHop

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The proof data of the one region: no windows, one point; what a device is dealt before it, what it should have after. -/
def dats (_ : Fin 1) (c : Dev nD) : Pipeline.Dat τ (Elt F) Unit ℕ UU ℕ cfg0 c where
  A w := w.elim0
  after w := w.elim0
  Φ t := match t with
    | ⟨0, _⟩ => iprop(start m c ∗ bufs c)
    | ⟨_ + 1, _⟩ => iprop(finish m c ∗ bufs c)
  q w := w.elim0
  owed t := match t with
    | ⟨0, _⟩ => O₀ c
    | ⟨_ + 1, _⟩ => 0

/-- Owing `O`, whatever the waits so far, in the region's words. -/
theorem owesAt_eq (c : Dev nD) (t : Fin (cfg0.N + 1)) : ((dats m 0 c).owesAt () t : sProp 𝕄) ⊢ owing c ((dats m 0 c).owed t) := by
  unfold Pipeline.Dat.owesAt Pipeline.owesWithin owing
  iintro ⟨%W, -, H⟩
  iexists W; iexact H
/-- What a device owes, in the form the launch asks for. -/
theorem owesAt_of (c : Dev nD) (t : Fin (cfg0.N + 1)) : owing c ((dats m 0 c).owed t) ⊢ ((dats m 0 c).owesAt () t : sProp 𝕄) := by
  unfold Pipeline.Dat.owesAt Pipeline.owesWithin owing
  iintro ⟨%W, H⟩
  iexists W
  isplitr; · ipureintro; exact fun _ _ => Or.inl trivial
  iexact H

set_option maxRecDepth 8000 in
/-- The body at the region's one point. -/
theorem body_obligation (c : Dev nD) : Pipeline.BodyObligation (dats (F := F) m 0 c) (defs₀ (F := F)) 𝒱₀ () Set.univ := fun t => by
  rw [Gen.fin_N0 t]
  have hW : (Finset.univ : Finset (Fin cfg0.W)) = ∅ := rfl
  rw [hW, bigSep_empty, bigSep_empty]
  show iprop((start m c ∗ bufs c) ∗ (dats m 0 c).owesAt () (Gen.t0_0).castSucc ∗ emp) ⊢ wp frame (wpE (defs₀ (F := F)) 𝒱₀ c none) Set.univ (Gen.bodyAt0 (F := F) Gen.t0_0)
    (fun _ => iprop((finish m c ∗ bufs c) ∗ (dats m 0 c).owesAt () (Gen.t0_0).succ ∗ emp))
  rw [body_eq]
  iintro ⟨⟨Hs, Hb⟩, HO, -⟩
  ihave HO := (show _ ⊢ owing c (O₀ c) from owesAt_eq m c (Gen.t0_0).castSucc) $$ HO
  iapply (wp_wand_r frame _ _)
  isplitl [Hs Hb HO]
  · iapply (device_run m c)
    isplitl [Hs]; · iexact Hs
    isplitl [Hb]; · iexact Hb
    iexact HO
  iintro %_ ⟨Hf, HO⟩
  isplitl [Hf]; · iexact Hf
  isplitl [HO]
  · iapply (show owing c 0 ⊢ _ from owesAt_of m c (Gen.t0_0).succ); iexact HO
  iempintro

/-- What the launch gives a device is what it is dealt. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, Gen.unscopedRest0_eq]
  unfold G' records
  iintro ⟨⟨HA, HV⟩, Hlev, Hcr, -, ⟨%K, ⟨HI, HR⟩, Hl⟩⟩
  ihave Hc := (creds (F := F) c) $$ Hcr
  imodintro
  unfold start
  isplitl
  · isplitl [HI HR Hlev]
    · iexists K
      unfold ctx
      isplitl [HI]; · iexact HI
      isplitl [HR]; · iexact HR
      iexact Hlev
    isplitl [Hl]; · iexact Hl
    isplitl [Hc]; · iexact Hc
    isplitl [HA]; · iexact HA
    iexact HV
  · iempintro

/-- A device's state before its body: what it starts with, and its scratch buffers. -/
theorem point0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, Gen.scopedRest0_eq]
  iintro ⟨Hs, -, Hb⟩
  isplitl [Hs]; · iexact Hs
  unfold bufs bufAny; iexact Hb

/-- What is read of a device at the end. -/
def ends (c : Dev nD) : sProp 𝕄 :=
  iprop(unscopedSems0 c ∗ (((c : Thread nD τ).loc main_arg0) ↦{fullShare} argAt m c)
    ∗ ∃ f, ⌜Good m c f⌝ ∗ (((c : Thread nD τ).loc main_v1) ↦{fullShare} f))

/-- After its body: what it ends with, its semaphores at zero and its scratch buffers. -/
theorem point1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = iprop(finish m c ∗ bufs c) from rfl, Gen.scopedRest0_eq]
  unfold finish ends
  rw [sems0_eq]
  iintro ⟨⟨⟨Hu, Ho⟩, HA, HV⟩, Hb⟩
  isplitl [Hu HA HV]
  · isplitl [Hu]; · iexact Hu
    isplitl [HA]; · iexact HA
    iexact HV
  isplitl [Ho]; · iexact Ho
  unfold bufs bufAny; iexact Hb

/-- What the final memory holds on a device. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = argAt m c ∧ Good m c (s.mem ((c : Thread nD τ).loc main_v1))

/-- What a device ends with, read in the final memory. -/
theorem ends_read (c : Dev nD) (s' : Phys nD τ sig (Elt F)) : iprop(ends m c ∗ emp ∗ SI s') ⊢ |={Set.univ}=> iprop(⌜Ends m c s'.mem⌝ ∗ SI s') := by
  have hr (ℓ : Loc nD τ sig) (f : Buf (Elt F) ℓ) : iprop((ℓ ↦{fullShare} f) ∗ SI s') ⊢ (iprop(⌜s'.mem.mem ℓ = f⌝ ∗ SI s') : sProp 𝕄) := by
    have h := pointsTo_read_all (Ix := Unit) (Name := ℕ) (U := UU) (Lvl := ℕ) ({()} : Finset Unit) (fun _ => ℓ) (fun _ => f) s'
    rw [bigSep_singleton] at h
    refine BIBase.Entails.trans h ?_
    iintro ⟨%h, H⟩
    isplitr; · ipureintro; exact h () (Finset.mem_singleton_self _)
    iexact H
  unfold ends
  iintro ⟨⟨Hu, HA, ⟨%f, %hf, HV⟩⟩, -, HS⟩
  imod (Pipeline.unscopedSems0_read (X := unscopedSems0 c) (c := c) fupd_intro s') $$ [Hu HS] with ⟨%h1, HS⟩
  · isplitl [Hu] <;> iassumption
  ihave H := (hr _ _) $$ [HA HS]
  · isplitl [HA] <;> iassumption
  icases H with ⟨%h2, HS⟩
  ihave H := (hr _ _) $$ [HV HS]
  · isplitl [HV] <;> iassumption
  icases H with ⟨%h3, HS⟩
  imodintro
  isplitr; · ipureintro; exact ⟨h1, h2, by rw [h3]; exact hf⟩
  iexact HS

/-- The call has no windows, so no window's semaphore has to be allowed. -/
theorem waits (c : Dev nD) : (levAts L lv : sProp 𝕄) ⊢ Pipeline.cellsWaits cfgs (dats m) () 0 c :=
  Pipeline.cellsWaits_intro cfgs (dats m) () 0 c fun w _ _ => w.elim0

set_option maxRecDepth 8000 in
/-- Every fair run ends with every device's argument unchanged, its result as it should be and every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0) ∧ Good m c (r.2.mem ((c.tc : Thread nD τ).loc main_v1)))
      ∧ r.2.sem = fun _ => 0) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP defs₀ 𝒱₀ m ρ main
    (hmain := fun _ => rfl)
    (hbody := body_obligation m) (hne := fun w => w.elim0) (harr := Gen.arr_whole0) (hstage := Gen.stage_whole0) (hshare := fun _ w => w.elim0)
    (hdistinct := Gen.winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := ends m) (Z := fun _ => iprop(emp))
    (hX := start_intro m ρ) (hin := point0_intro m) (hout := point1_exit m)
    (QY := Ends m) (hY := ends_read m)
    (hQ := fun _ h hs => ⟨fun c => (h c).2.2.2, sem_eq_zero hs fun c => (h c).2.2.1⟩)

end Cert.TwoHop
-- ==== Proof.Value.lean ====
/- What the result array holds, as numbers.

   Read at the ideal instance a rounding is the identity, so the sum a device makes of a chunk is its own rows plus its
   y-partner's. Each device's argument is one of the two 512-row halves of the whole array, and the partner holds the
   other; so a good result array is the sum of the two halves. -/
module

public import proofs.«01_k».proof.Proof.Launch
public import Idealize.ShloMosaic.Lib.Pointwise.Reshape
public import Idealize.ShloMosaic.PureOps.Ideal.Laws
public import Idealize.ShloMosaic.Lib.Layout

@[expose] public section

noncomputable section

namespace Cert.TwoHop

open Cert.KernelIdeal Idealize.ShloMosaic Idealize.ShloMosaic.TcCoe Idealize.SL.Sem

/-- The whole array's index at row `512 k` plus the row of `j`, in the column of `j`. -/
def rowOf (k : Fin 2) (j : S512x512.Idx) : (⟨2, ![1024, 512]⟩ : Shape).Idx :=
  ix2 ⟨512 * k.val + (j 0).val, by have := k.isLt; have : (j 0).val < 512 := (j 0).isLt; omega⟩ ⟨(j 1).val, (j 1).isLt⟩

/-- The sum of the two halves of a 1024-row array. -/
def total (X : (⟨2, ![1024, 512]⟩ : Shape).Idx → EReal) (j : S512x512.Idx) : EReal := X (rowOf 0 j) + X (rowOf 1 j)

/-- A device's coordinate on the mesh's second axis. -/
def yOf (c : Dev nD) : Fin 2 := ⟨(c.val / 4) % 2, Nat.mod_lt _ (by decide)⟩

/-- One y-partner holds the first half and the other the second. -/
theorem yOf_cases (c : Dev nD) : (yOf c = 0 ∧ yOf (py c) = 1) ∨ (yOf c = 1 ∧ yOf (py c) = 0) := by revert c; decide
/-- The two y-partners work on the same rows, -/
theorem half_py (c : Dev nD) : (py c).val / 8 = c.val / 8 := by revert c; decide
/-- the two x-partners on different ones. -/
theorem half_px (c : Dev nD) : (px c).val / 8 = 1 - c.val / 8 := by revert c; decide

/-- Where an element of a device's own chunk sits: in the chunk's rows, in the same column. -/
theorem mine_row (c : Dev nD) (i : Fin 8) (z : S32x512.Idx) :
    ((mineR c i).emb z 0).val = 256 * (c.val / 8) + 32 * i.val + (z 0).val := by
  rw [Rect.emb_apply]
  show k0_off1 c (BitVec.ofNat 32 (32 * i.val)) 0 + 1 * (z 0).val = _
  rw [Gen.k0_off1_eq, Nat.one_mul]; rfl
/-- The column of such an element is its column in the chunk. -/
theorem mine_col (c : Dev nD) (i : Fin 8) (z : S32x512.Idx) : ((mineR c i).emb z 1).val = (z 1).val := by
  rw [Rect.emb_apply]
  show k0_off1 c (BitVec.ofNat 32 (32 * i.val)) 1 + 1 * (z 1).val = _
  rw [Gen.k0_off1_eq, Nat.one_mul]; exact Nat.zero_add _
/-- The same of a chunk of the other half. -/
theorem other_row (c : Dev nD) (i : Fin 8) (z : S32x512.Idx) :
    ((otherR c i).emb z 0).val = (32 * i.val + 256) - 256 * (c.val / 8) + (z 0).val := by
  rw [Rect.emb_apply]
  show k0_off2 c (BitVec.ofNat 32 (32 * i.val)) 0 + 1 * (z 0).val = _
  rw [Gen.k0_off2_eq, Nat.one_mul]; rfl
/-- Its column is its column in the chunk. -/
theorem other_col (c : Dev nD) (i : Fin 8) (z : S32x512.Idx) : ((otherR c i).emb z 1).val = (z 1).val := by
  rw [Rect.emb_apply]
  show k0_off2 c (BitVec.ofNat 32 (32 * i.val)) 1 + 1 * (z 1).val = _
  rw [Gen.k0_off2_eq, Nat.one_mul]; exact Nat.zero_add _

/-- Two indices of the 512-row arrays agree when their rows and columns do. -/
theorem idx_ext (j k : S512x512.Idx) (h0 : (j 0).val = (k 0).val) (h1 : (j 1).val = (k 1).val) : j = k := by
  funext a; fin_cases a
  · exact Fin.ext h0
  · exact Fin.ext h1

/-- A device's chunk is at the same place as its y-partner's, -/
theorem mine_py (c : Dev nD) (i : Fin 8) (z : S32x512.Idx) : (mineR (py c) i).emb z = (mineR c i).emb z :=
  idx_ext _ _ (by rw [mine_row, mine_row, half_py]) (by rw [mine_col, mine_col])
/-- and what it receives from its x-partner goes where that partner's own chunk is. -/
theorem other_px (c : Dev nD) (i : Fin 8) (z : S32x512.Idx) : (otherR c i).emb z = (mineR (px c) i).emb z :=
  idx_ext _ _ (by rw [other_row, mine_row, half_px]; have : c.val < 16 := c.isLt; omega) (by rw [other_col, mine_col])

variable (m : (ℓ : Loc nD τ sig) → Buf (Elt Ideal) ℓ)

/-- What one step computes at one element: the device's own number plus its y-partner's at the same place. -/
theorem tB_apply (c : Dev nD) (i : Fin 8) (z : S32x512.Idx) :
    tB m c i z = (show EReal from argAt m c ((mineR c i).emb z)) + (show EReal from argAt m (py c) ((mineR (py c) i).emb z)) := by
  unfold tB sB added rounded
  rw [shapeCast_id, shapeCast_id]
  rfl

/-- The sum at an element, when each device's argument is its half of `X`. -/
theorem tB_total (X : (⟨2, ![1024, 512]⟩ : Shape).Idx → EReal) (hX : ∀ d j, (show EReal from argAt m d j) = X (rowOf (yOf d) j))
    (c : Dev nD) (i : Fin 8) (z : S32x512.Idx) : tB m c i z = total X ((mineR c i).emb z) := by
  rw [tB_apply, mine_py]
  refine (congrArg₂ (fun a b : EReal => a + b) (hX c _) (hX (py c) _)).trans ?_
  unfold total
  rcases yOf_cases c with ⟨h, h'⟩ | ⟨h, h'⟩
  · rw [h, h']
  · rw [h, h', add_comm]

/-- A good result array holds the sum of the two halves, on every device. -/
theorem good_total (X : (⟨2, ![1024, 512]⟩ : Shape).Idx → EReal) (hX : ∀ d j, (show EReal from argAt m d j) = X (rowOf (yOf d) j))
    (c : Dev nD) (f : (main_v1 : Ref sig .tc).ty.Contents (Elt Ideal)) (hf : Good m c f) : f = total X := by
  funext j
  have hj : j ∈ (Finset.univ : Finset (Bool × Fin 8)).biUnion (fun t => (halfR c t).set) := by rw [half_cover]; exact Finset.mem_univ j
  obtain ⟨⟨b, i⟩, -, ht⟩ := Finset.mem_biUnion.mp hj
  cases b
  · obtain ⟨z, -, rfl⟩ := Finset.mem_map.mp ((Rect.map_emb_univ (mineR c i)).symm ▸ (show j ∈ (mineR c i).set from ht))
    exact (congrFun (hf i).1 z).trans (tB_total m X hX c i z)
  · obtain ⟨z, -, rfl⟩ := Finset.mem_map.mp ((Rect.map_emb_univ (otherR c i)).symm ▸ (show j ∈ (otherR c i).set from ht))
    exact ((congrFun (hf i).2 z).trans (tB_total m X hX (px c) i z)).trans (congrArg (total X) (other_px c i z).symm)

/-- Where an element of device `c`'s block of the whole array sits. -/
theorem block_row (X : (⟨2, ![1024, 512]⟩ : Shape).Idx → EReal) (c : Dev nD) (j : S512x512.Idx) :
    (Layout.blockN ⟨2, ![512, 512]⟩ ⟨2, ![1024, 512]⟩ (Layout.meshBlock [2, 2, 4] ![[1], []] c) X : S512x512.Idx → EReal) j = X (rowOf (yOf c) j) := by
  rw [Layout.blockN_apply]
  refine congrArg X (funext fun a => Fin.ext ?_)
  fin_cases a
  · show (Layout.meshLin [2, 2, 4] c.val [1]) * 512 + (j 0).val = 512 * (yOf c).val + (j 0).val
    have h : Layout.meshLin [2, 2, 4] c.val [1] = (yOf c).val := by revert c; decide
    rw [h, Nat.mul_comm]
  · show 0 * 512 + (j 1).val = (j 1).val
    rw [Nat.zero_mul, Nat.zero_add]

end Cert.TwoHop
-- ==== Proof.Reference.lean ====
/- What the reference computes.

   Read at the ideal instance, the reshape to two halves, the sum over them from zero and the rounding are, at every
   index, the sum of the whole array's two entries at that row of each half. -/
module

public import proofs.«01_k».proof.Proof.Value
public import proofs.«01_k».proof.Proof.Gen.ReferenceIdeal.Run
public import Idealize.ShloMosaic.Lib.Pointwise.Reduce

@[expose] public section

noncomputable section

namespace Cert.TwoHop

open Idealize.ShloMosaic Idealize.ShloMosaic.TcCoe Idealize.SL.Sem

/-- Entry `(k, r, l)` of the array cut in two halves is entry `(512 k + r, l)` of the whole. -/
theorem halves_apply (X : (⟨2, ![1024, 512]⟩ : Shape).Idx → EReal) (h : (⟨2, ![1024, 512]⟩ : Shape).ShapeCasts ⟨3, ![2, 512, 512]⟩)
    (k : Fin 2) (r l : Fin 512) : shapeCast ⟨3, ![2, 512, 512]⟩ X h (ix3 k r l) = X (rowOf k (ix2 r l)) := by
  refine congrArg X (Shape.reshapeEquiv_eq_of_rowMajor h ?_)
  rw [Shape.rowMajor_val_two, Shape.rowMajor_val_three]
  show (512 * k.val + r.val) * 512 + l.val = (k.val * 512 + r.val) * 512 + l.val
  omega

/-- The reference's result is the sum of the two halves. -/
theorem reference_total (X : FVec Ideal Cert.ReferenceIdeal.S1024x512 .f32) :
    truncf .bf16 (Host.reduceAdd (shapeCast Cert.ReferenceIdeal.S2x512x512 X Cert.ReferenceIdeal.Gen.shapeCasts_S1024x512_S2x512x512)
      (constant Cert.ReferenceIdeal.S_ .f32 0x00000000#32 : FVec Ideal Cert.ReferenceIdeal.S_ .f32) Cert.ReferenceIdeal.Gen.reducesTo_S2x512x512_S512x512_d0 Cert.ReferenceIdeal.Gen.h_S_ : FVec Ideal Cert.ReferenceIdeal.S512x512 .f32)
      Cert.ReferenceIdeal.Gen.bitsLt_bf16_f32 = total X := by
  funext j
  show Ideal.hostReduceAdd _ _ (Ideal.ofBits .f32 0x00000000#32) j = _
  rw [Ideal.hostReduceAdd_r3_a0, Ideal.ofBits_zero_f32, zero_add, Fin.sum_univ_two]
  rw [halves_apply, halves_apply]
  rfl

end Cert.TwoHop
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The printed kernel runs to its end, its argument unchanged and every counter at zero. Its idealization is the same
    text, so the run proved of that, at any float values, is this one at bit patterns. -/
theorem frame_kernel : Cert.quiescent_Kernel (hKernel := Cert.Kernel.Gen.facts) := fun m ρ _ =>
  (θ_run Cert.KernelIdeal.defs _ _).mono (fun _ h => ⟨fun c => (h.1 c).1, h.2⟩) (Cert.TwoHop.run_main (F := Bits) m ρ)

/-- The same read at the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.TwoHop.run_main (F := Ideal) m ρ)

/-- The reference runs to its end with its argument unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends holding the reference's result: both are the sum of the whole array's two halves. -/
theorem values_agree : Cert.algebraic_KernelIdeal_ReferenceIdeal (hKernelIdeal := Cert.KernelIdeal.Gen.facts)
    (hReferenceIdeal := Cert.ReferenceIdeal.Gen.facts) := by
  intro m ρ m' ρ' _ hm
  refine ⟨Cert.TwoHop.total (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h.1 c).1⟩) (Cert.TwoHop.run_main (F := Ideal) m ρ)
    exact Cert.TwoHop.good_total m _ (fun d j => (congrFun (hm d) j).trans (Cert.TwoHop.block_row _ d j)) c _ (h.1 c).2
  · exact (θ_run Cert.ReferenceIdeal.defs _ _).mono (fun _ h => ⟨(h 0).1.trans (Cert.TwoHop.reference_total _), (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, values_agree⟩

end Cert.Proof

end
